-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_with_tables [hPre_finite_with_tables : Cert.Pre_finite_with_tables.Facts] (m : (ℓ : Loc Cert.SwaIdeal.nD Cert.SwaIdeal.τ Cert.SwaIdeal.sig) → Buf (Elt Ideal) ℓ) : Prop :=
  ∀ c : Dev Cert.SwaIdeal.nD,
    (Cert.Pre_finite_with_tables.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))) = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_with_tables [hPre_finite_with_tables : Cert.Pre_finite_with_tables.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_with_tables.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnInner (m : (ℓ : Loc Cert.FfnInner.nD Cert.FfnInner.τ Cert.FfnInner.sig) → Buf (Elt Bits) ℓ) : Prop :=
  True

def Pre_FfnInnerIdeal (m : (ℓ : Loc Cert.FfnInnerIdeal.nD Cert.FfnInnerIdeal.τ Cert.FfnInnerIdeal.sig) → Buf (Elt Ideal) ℓ) : Prop :=
  True

def Pre_FfnInnerRefIdeal (m : (ℓ : Loc Cert.FfnInnerRefIdeal.nD Cert.FfnInnerRefIdeal.τ Cert.FfnInnerRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_Dn (m : (ℓ : Loc Cert.Dn.nD Cert.Dn.τ Cert.Dn.sig) → Buf (Elt Bits) ℓ) : Prop :=
  True

def Pre_DnIdeal (m : (ℓ : Loc Cert.DnIdeal.nD Cert.DnIdeal.τ Cert.DnIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_finite_with_tables [hSwaIdeal : Cert.SwaIdeal.Facts] [hPre_finite_with_tables : Cert.Pre_finite_with_tables.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_with_tables m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_finite_with_tables [hSwaRefIdeal : Cert.SwaRefIdeal.Facts] [hPre_finite_with_tables : Cert.Pre_finite_with_tables.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_with_tables m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_FfnInner [hFfnInner : Cert.FfnInner.Facts] : Prop :=
  ∀ (m : (ℓ : Loc Cert.FfnInner.nD Cert.FfnInner.τ Cert.FfnInner.sig) → Buf (Elt Bits) ℓ) (g : Dev Cert.FfnInner.nD → PrngReg), Pre_FfnInner m →
    θ_run (Cert.FfnInner.defs (F := Bits)) (onTc (τ := Cert.FfnInner.τ) (Cert.FfnInner.main (F := Bits))) ⟨m, fun _ => 0, g⟩ (fun r => (∀ c : Dev Cert.FfnInner.nD,
      r.2.mem ((c.tc : Thread Cert.FfnInner.nD Cert.FfnInner.τ).loc Cert.FfnInner.main_arg0) = m ((c.tc : Thread Cert.FfnInner.nD Cert.FfnInner.τ).loc Cert.FfnInner.main_arg0)
      ∧ r.2.mem ((c.tc : Thread Cert.FfnInner.nD Cert.FfnInner.τ).loc Cert.FfnInner.main_arg1) = m ((c.tc : Thread Cert.FfnInner.nD Cert.FfnInner.τ).loc Cert.FfnInner.main_arg1)
      ∧ r.2.mem ((c.tc : Thread Cert.FfnInner.nD Cert.FfnInner.τ).loc Cert.FfnInner.main_arg2) = m ((c.tc : Thread Cert.FfnInner.nD Cert.FfnInner.τ).loc Cert.FfnInner.main_arg2)
      ∧ r.2.mem ((c.tc : Thread Cert.FfnInner.nD Cert.FfnInner.τ).loc Cert.FfnInner.main_arg3) = m ((c.tc : Thread Cert.FfnInner.nD Cert.FfnInner.τ).loc Cert.FfnInner.main_arg3)
      ∧ r.2.mem ((c.tc : Thread Cert.FfnInner.nD Cert.FfnInner.τ).loc Cert.FfnInner.main_arg4) = m ((c.tc : Thread Cert.FfnInner.nD Cert.FfnInner.τ).loc Cert.FfnInner.main_arg4))
      ∧ r.2.sem = fun _ => 0)

def quiescent_FfnInnerIdeal [hFfnInnerIdeal : Cert.FfnInnerIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg), Pre_FfnInnerIdeal m →
    θ_run (Cert.FfnInnerIdeal.defs (F := Ideal)) (onTc (τ := Cert.FfnInnerIdeal.τ) (Cert.FfnInnerIdeal.main (F := Ideal))) ⟨m, fun _ => 0, g⟩ (fun r => (∀ c : Dev Cert.FfnInnerIdeal.nD,
      r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
      ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1)
      ∧ r.2.mem ((c.tc : Thread Cert.FfnInnerIdeal.nD Cert.FfnInnerIdeal.τ).loc Cert.FfnInnerIdeal.main_arg2) = m ((c.tc : Thread Cert.FfnInnerIdeal.nD Cert.FfnInnerIdeal.τ).loc Cert.FfnInnerIdeal.main_arg2)
      ∧ r.2.mem ((c.tc : Thread Cert.FfnInnerIdeal.nD Cert.FfnInnerIdeal.τ).loc Cert.FfnInnerIdeal.main_arg3) = m ((c.tc : Thread Cert.FfnInnerIdeal.nD Cert.FfnInnerIdeal.τ).loc Cert.FfnInnerIdeal.main_arg3)
      ∧ r.2.mem ((c.tc : Thread Cert.FfnInnerIdeal.nD Cert.FfnInnerIdeal.τ).loc Cert.FfnInnerIdeal.main_arg4) = m ((c.tc : Thread Cert.FfnInnerIdeal.nD Cert.FfnInnerIdeal.τ).loc Cert.FfnInnerIdeal.main_arg4))
      ∧ r.2.sem = fun _ => 0)

def quiescent_FfnInnerRefIdeal [hFfnInnerRefIdeal : Cert.FfnInnerRefIdeal.Facts] : Prop :=
  ∀ (m : (ℓ : Loc Cert.FfnInnerRefIdeal.nD Cert.FfnInnerRefIdeal.τ Cert.FfnInnerRefIdeal.sig) → Buf (Elt Ideal) ℓ) (g : Dev Cert.FfnInnerRefIdeal.nD → PrngReg), Pre_FfnInnerRefIdeal m →
    θ_run (Cert.FfnInnerRefIdeal.defs (F := Ideal)) (onTc (τ := Cert.FfnInnerRefIdeal.τ) (Cert.FfnInnerRefIdeal.main (F := Ideal))) ⟨m, fun _ => 0, g⟩ (fun r => (∀ c : Dev Cert.FfnInnerRefIdeal.nD,
      r.2.mem ((c.tc : Thread Cert.FfnInnerRefIdeal.nD Cert.FfnInnerRefIdeal.τ).loc Cert.FfnInnerRefIdeal.main_arg0) = m ((c.tc : Thread Cert.FfnInnerRefIdeal.nD Cert.FfnInnerRefIdeal.τ).loc Cert.FfnInnerRefIdeal.main_arg0)
      ∧ r.2.mem ((c.tc : Thread Cert.FfnInnerRefIdeal.nD Cert.FfnInnerRefIdeal.τ).loc Cert.FfnInnerRefIdeal.main_arg1) = m ((c.tc : Thread Cert.FfnInnerRefIdeal.nD Cert.FfnInnerRefIdeal.τ).loc Cert.FfnInnerRefIdeal.main_arg1)
      ∧ r.2.mem ((c.tc : Thread Cert.FfnInnerRefIdeal.nD Cert.FfnInnerRefIdeal.τ).loc Cert.FfnInnerRefIdeal.main_arg2) = m ((c.tc : Thread Cert.FfnInnerRefIdeal.nD Cert.FfnInnerRefIdeal.τ).loc Cert.FfnInnerRefIdeal.main_arg2)
      ∧ r.2.mem ((c.tc : Thread Cert.FfnInnerRefIdeal.nD Cert.FfnInnerRefIdeal.τ).loc Cert.FfnInnerRefIdeal.main_arg3) = m ((c.tc : Thread Cert.FfnInnerRefIdeal.nD Cert.FfnInnerRefIdeal.τ).loc Cert.FfnInnerRefIdeal.main_arg3)
      ∧ r.2.mem ((c.tc : Thread Cert.FfnInnerRefIdeal.nD Cert.FfnInnerRefIdeal.τ).loc Cert.FfnInnerRefIdeal.main_arg4) = m ((c.tc : Thread Cert.FfnInnerRefIdeal.nD Cert.FfnInnerRefIdeal.τ).loc Cert.FfnInnerRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0)
      ∧ r.2.mem ((c.tc : Thread Cert.Rope.nD Cert.Rope.τ).loc Cert.Rope.main_arg1) = m ((c.tc : Thread Cert.Rope.nD Cert.Rope.τ).loc Cert.Rope.main_arg1))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
      ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0)
      ∧ r.2.mem ((c.tc : Thread Cert.RopeRefIdeal.nD Cert.RopeRefIdeal.τ).loc Cert.RopeRefIdeal.main_arg1) = m ((c.tc : Thread Cert.RopeRefIdeal.nD Cert.RopeRefIdeal.τ).loc Cert.RopeRefIdeal.main_arg1))
      ∧ r.2.sem = fun _ => 0)

def quiescent_Dn [hDn : Cert.Dn.Facts] : Prop :=
  ∀ (m : (ℓ : Loc Cert.Dn.nD Cert.Dn.τ Cert.Dn.sig) → Buf (Elt Bits) ℓ) (g : Dev Cert.Dn.nD → PrngReg), Pre_Dn m →
    θ_run (Cert.Dn.defs (F := Bits)) (onTc (τ := Cert.Dn.τ) (Cert.Dn.main (F := Bits))) ⟨m, fun _ => 0, g⟩ (fun r => (∀ c : Dev Cert.Dn.nD,
      r.2.mem ((c.tc : Thread Cert.Dn.nD Cert.Dn.τ).loc Cert.Dn.main_arg0) = m ((c.tc : Thread Cert.Dn.nD Cert.Dn.τ).loc Cert.Dn.main_arg0)
      ∧ r.2.mem ((c.tc : Thread Cert.Dn.nD Cert.Dn.τ).loc Cert.Dn.main_arg1) = m ((c.tc : Thread Cert.Dn.nD Cert.Dn.τ).loc Cert.Dn.main_arg1)
      ∧ r.2.mem ((c.tc : Thread Cert.Dn.nD Cert.Dn.τ).loc Cert.Dn.main_arg2) = m ((c.tc : Thread Cert.Dn.nD Cert.Dn.τ).loc Cert.Dn.main_arg2)
      ∧ r.2.mem ((c.tc : Thread Cert.Dn.nD Cert.Dn.τ).loc Cert.Dn.main_arg3) = m ((c.tc : Thread Cert.Dn.nD Cert.Dn.τ).loc Cert.Dn.main_arg3)
      ∧ r.2.mem ((c.tc : Thread Cert.Dn.nD Cert.Dn.τ).loc Cert.Dn.main_arg4) = m ((c.tc : Thread Cert.Dn.nD Cert.Dn.τ).loc Cert.Dn.main_arg4))
      ∧ r.2.sem = fun _ => 0)

def quiescent_DnIdeal [hDnIdeal : Cert.DnIdeal.Facts] : Prop :=
  ∀ (m : (ℓ : Loc Cert.DnIdeal.nD Cert.DnIdeal.τ Cert.DnIdeal.sig) → Buf (Elt Ideal) ℓ) (g : Dev Cert.DnIdeal.nD → PrngReg), Pre_DnIdeal m →
    θ_run (Cert.DnIdeal.defs (F := Ideal)) (onTc (τ := Cert.DnIdeal.τ) (Cert.DnIdeal.main (F := Ideal))) ⟨m, fun _ => 0, g⟩ (fun r => (∀ c : Dev Cert.DnIdeal.nD,
      r.2.mem ((c.tc : Thread Cert.DnIdeal.nD Cert.DnIdeal.τ).loc Cert.DnIdeal.main_arg0) = m ((c.tc : Thread Cert.DnIdeal.nD Cert.DnIdeal.τ).loc Cert.DnIdeal.main_arg0)
      ∧ r.2.mem ((c.tc : Thread Cert.DnIdeal.nD Cert.DnIdeal.τ).loc Cert.DnIdeal.main_arg1) = m ((c.tc : Thread Cert.DnIdeal.nD Cert.DnIdeal.τ).loc Cert.DnIdeal.main_arg1)
      ∧ r.2.mem ((c.tc : Thread Cert.DnIdeal.nD Cert.DnIdeal.τ).loc Cert.DnIdeal.main_arg2) = m ((c.tc : Thread Cert.DnIdeal.nD Cert.DnIdeal.τ).loc Cert.DnIdeal.main_arg2)
      ∧ r.2.mem ((c.tc : Thread Cert.DnIdeal.nD Cert.DnIdeal.τ).loc Cert.DnIdeal.main_arg3) = m ((c.tc : Thread Cert.DnIdeal.nD Cert.DnIdeal.τ).loc Cert.DnIdeal.main_arg3)
      ∧ r.2.mem ((c.tc : Thread Cert.DnIdeal.nD Cert.DnIdeal.τ).loc Cert.DnIdeal.main_arg4) = m ((c.tc : Thread Cert.DnIdeal.nD Cert.DnIdeal.τ).loc Cert.DnIdeal.main_arg4))
      ∧ r.2.sem = fun _ => 0)

def preserves_Swa_SwaIdeal : Prop :=
  IdealRules.named_const.Statement Cert.SwaIdeal.κ "mask" .f32 0xF149F2CA#32 ⊥

def algebraic_SwaIdeal_SwaRefIdeal_pre_finite_with_tables [hSwaIdeal : Cert.SwaIdeal.Facts] [hSwaRefIdeal : Cert.SwaRefIdeal.Facts] [hPre_finite_with_tables : Cert.Pre_finite_with_tables.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_with_tables m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v102) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v4)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v4) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v32) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_FfnInner_FfnInnerIdeal : Prop :=
  True

def algebraic_FfnInnerIdeal_FfnInnerRefIdeal [hFfnInnerIdeal : Cert.FfnInnerIdeal.Facts] [hFfnInnerRefIdeal : Cert.FfnInnerRefIdeal.Facts] : Prop :=
  ∀ (m : (ℓ : Loc Cert.FfnInnerIdeal.nD Cert.FfnInnerIdeal.τ Cert.FfnInnerIdeal.sig) → Buf (Elt Ideal) ℓ) (g : Dev Cert.FfnInnerIdeal.nD → PrngReg)
    (m' : (ℓ : Loc Cert.FfnInnerRefIdeal.nD Cert.FfnInnerRefIdeal.τ Cert.FfnInnerRefIdeal.sig) → Buf (Elt Ideal) ℓ) (g' : Dev Cert.FfnInnerRefIdeal.nD → PrngReg), Pre_FfnInnerIdeal m →
    (∀ c : Dev Cert.FfnInnerIdeal.nD,
      m' ((c.tc : Thread Cert.FfnInnerRefIdeal.nD Cert.FfnInnerRefIdeal.τ).loc Cert.FfnInnerRefIdeal.main_arg0) = m ((c.tc : Thread Cert.FfnInnerIdeal.nD Cert.FfnInnerIdeal.τ).loc Cert.FfnInnerIdeal.main_arg0)
      ∧ m' ((c.tc : Thread Cert.FfnInnerRefIdeal.nD Cert.FfnInnerRefIdeal.τ).loc Cert.FfnInnerRefIdeal.main_arg1) = m ((c.tc : Thread Cert.FfnInnerIdeal.nD Cert.FfnInnerIdeal.τ).loc Cert.FfnInnerIdeal.main_arg1)
      ∧ m' ((c.tc : Thread Cert.FfnInnerRefIdeal.nD Cert.FfnInnerRefIdeal.τ).loc Cert.FfnInnerRefIdeal.main_arg2) = m ((c.tc : Thread Cert.FfnInnerIdeal.nD Cert.FfnInnerIdeal.τ).loc Cert.FfnInnerIdeal.main_arg2)
      ∧ m' ((c.tc : Thread Cert.FfnInnerRefIdeal.nD Cert.FfnInnerRefIdeal.τ).loc Cert.FfnInnerRefIdeal.main_arg3) = m ((c.tc : Thread Cert.FfnInnerIdeal.nD Cert.FfnInnerIdeal.τ).loc Cert.FfnInnerIdeal.main_arg3)
      ∧ m' ((c.tc : Thread Cert.FfnInnerRefIdeal.nD Cert.FfnInnerRefIdeal.τ).loc Cert.FfnInnerRefIdeal.main_arg4) = m ((c.tc : Thread Cert.FfnInnerIdeal.nD Cert.FfnInnerIdeal.τ).loc Cert.FfnInnerIdeal.main_arg4)) →
    ∃ (v0 : (c : Dev Cert.FfnInnerIdeal.nD) → Buf (Elt Ideal) ((c.tc : Thread Cert.FfnInnerIdeal.nD Cert.FfnInnerIdeal.τ).loc Cert.FfnInnerIdeal.main_v4)),
      θ_run (Cert.FfnInnerIdeal.defs (F := Ideal)) (onTc (τ := Cert.FfnInnerIdeal.τ) (Cert.FfnInnerIdeal.main (F := Ideal))) ⟨m, fun _ => 0, g⟩ (fun r => ∀ c : Dev Cert.FfnInnerIdeal.nD,
          r.2.mem ((c.tc : Thread Cert.FfnInnerIdeal.nD Cert.FfnInnerIdeal.τ).loc Cert.FfnInnerIdeal.main_v4) = v0 c
          ∧ r.2.mem ((c.tc : Thread Cert.FfnInnerIdeal.nD Cert.FfnInnerIdeal.τ).loc Cert.FfnInnerIdeal.main_arg0) = m ((c.tc : Thread Cert.FfnInnerIdeal.nD Cert.FfnInnerIdeal.τ).loc Cert.FfnInnerIdeal.main_arg0)
          ∧ r.2.mem ((c.tc : Thread Cert.FfnInnerIdeal.nD Cert.FfnInnerIdeal.τ).loc Cert.FfnInnerIdeal.main_arg1) = m ((c.tc : Thread Cert.FfnInnerIdeal.nD Cert.FfnInnerIdeal.τ).loc Cert.FfnInnerIdeal.main_arg1)
          ∧ r.2.mem ((c.tc : Thread Cert.FfnInnerIdeal.nD Cert.FfnInnerIdeal.τ).loc Cert.FfnInnerIdeal.main_arg2) = m ((c.tc : Thread Cert.FfnInnerIdeal.nD Cert.FfnInnerIdeal.τ).loc Cert.FfnInnerIdeal.main_arg2)
          ∧ r.2.mem ((c.tc : Thread Cert.FfnInnerIdeal.nD Cert.FfnInnerIdeal.τ).loc Cert.FfnInnerIdeal.main_arg3) = m ((c.tc : Thread Cert.FfnInnerIdeal.nD Cert.FfnInnerIdeal.τ).loc Cert.FfnInnerIdeal.main_arg3)
          ∧ r.2.mem ((c.tc : Thread Cert.FfnInnerIdeal.nD Cert.FfnInnerIdeal.τ).loc Cert.FfnInnerIdeal.main_arg4) = m ((c.tc : Thread Cert.FfnInnerIdeal.nD Cert.FfnInnerIdeal.τ).loc Cert.FfnInnerIdeal.main_arg4))
      ∧ θ_run (Cert.FfnInnerRefIdeal.defs (F := Ideal)) (onTc (τ := Cert.FfnInnerRefIdeal.τ) (Cert.FfnInnerRefIdeal.main (F := Ideal))) ⟨m', fun _ => 0, g'⟩ (fun r => ∀ c : Dev Cert.FfnInnerRefIdeal.nD,
          r.2.mem ((c.tc : Thread Cert.FfnInnerRefIdeal.nD Cert.FfnInnerRefIdeal.τ).loc Cert.FfnInnerRefIdeal.main_v19) = v0 c
          ∧ r.2.mem ((c.tc : Thread Cert.FfnInnerRefIdeal.nD Cert.FfnInnerRefIdeal.τ).loc Cert.FfnInnerRefIdeal.main_arg0) = m' ((c.tc : Thread Cert.FfnInnerRefIdeal.nD Cert.FfnInnerRefIdeal.τ).loc Cert.FfnInnerRefIdeal.main_arg0)
          ∧ r.2.mem ((c.tc : Thread Cert.FfnInnerRefIdeal.nD Cert.FfnInnerRefIdeal.τ).loc Cert.FfnInnerRefIdeal.main_arg1) = m' ((c.tc : Thread Cert.FfnInnerRefIdeal.nD Cert.FfnInnerRefIdeal.τ).loc Cert.FfnInnerRefIdeal.main_arg1)
          ∧ r.2.mem ((c.tc : Thread Cert.FfnInnerRefIdeal.nD Cert.FfnInnerRefIdeal.τ).loc Cert.FfnInnerRefIdeal.main_arg2) = m' ((c.tc : Thread Cert.FfnInnerRefIdeal.nD Cert.FfnInnerRefIdeal.τ).loc Cert.FfnInnerRefIdeal.main_arg2)
          ∧ r.2.mem ((c.tc : Thread Cert.FfnInnerRefIdeal.nD Cert.FfnInnerRefIdeal.τ).loc Cert.FfnInnerRefIdeal.main_arg3) = m' ((c.tc : Thread Cert.FfnInnerRefIdeal.nD Cert.FfnInnerRefIdeal.τ).loc Cert.FfnInnerRefIdeal.main_arg3)
          ∧ r.2.mem ((c.tc : Thread Cert.FfnInnerRefIdeal.nD Cert.FfnInnerRefIdeal.τ).loc Cert.FfnInnerRefIdeal.main_arg4) = m' ((c.tc : Thread Cert.FfnInnerRefIdeal.nD Cert.FfnInnerRefIdeal.τ).loc Cert.FfnInnerRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v1) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v14) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v3)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v3) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v61) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)
      ∧ m' ((c.tc : Thread Cert.RopeRefIdeal.nD Cert.RopeRefIdeal.τ).loc Cert.RopeRefIdeal.main_arg1) = m ((c.tc : Thread Cert.RopeIdeal.nD Cert.RopeIdeal.τ).loc Cert.RopeIdeal.main_arg1)) →
    ∃ (v0 : (c : Dev Cert.RopeIdeal.nD) → Buf (Elt Ideal) ((c.tc : Thread Cert.RopeIdeal.nD Cert.RopeIdeal.τ).loc Cert.RopeIdeal.main_v4_0)) (v1 : (c : Dev Cert.RopeIdeal.nD) → Buf (Elt Ideal) ((c.tc : Thread Cert.RopeIdeal.nD Cert.RopeIdeal.τ).loc Cert.RopeIdeal.main_v4_1)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v4_0) = v0 c
          ∧ r.2.mem ((c.tc : Thread Cert.RopeIdeal.nD Cert.RopeIdeal.τ).loc Cert.RopeIdeal.main_v4_1) = v1 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0)
          ∧ r.2.mem ((c.tc : Thread Cert.RopeIdeal.nD Cert.RopeIdeal.τ).loc Cert.RopeIdeal.main_arg1) = m ((c.tc : Thread Cert.RopeIdeal.nD Cert.RopeIdeal.τ).loc Cert.RopeIdeal.main_arg1))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v10) = v0 c
          ∧ r.2.mem ((c.tc : Thread Cert.RopeRefIdeal.nD Cert.RopeRefIdeal.τ).loc Cert.RopeRefIdeal.main_v13) = v1 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0)
          ∧ r.2.mem ((c.tc : Thread Cert.RopeRefIdeal.nD Cert.RopeRefIdeal.τ).loc Cert.RopeRefIdeal.main_arg1) = m' ((c.tc : Thread Cert.RopeRefIdeal.nD Cert.RopeRefIdeal.τ).loc Cert.RopeRefIdeal.main_arg1))

def preserves_Dn_DnIdeal : Prop :=
  IdealRules.named_const.Statement Cert.DnIdeal.κ "mask" .f32 0xF149F2CA#32 ⊥

def Claim : Prop :=
  ∃ (hSwa : Cert.Swa.Facts) (hSwaIdeal : Cert.SwaIdeal.Facts) (hSwaRefIdeal : Cert.SwaRefIdeal.Facts) (hFfn : Cert.Ffn.Facts) (hFfnIdeal : Cert.FfnIdeal.Facts) (hFfnRefIdeal : Cert.FfnRefIdeal.Facts) (hFfnInner : Cert.FfnInner.Facts) (hFfnInnerIdeal : Cert.FfnInnerIdeal.Facts) (hFfnInnerRefIdeal : Cert.FfnInnerRefIdeal.Facts) (hProj : Cert.Proj.Facts) (hProjIdeal : Cert.ProjIdeal.Facts) (hProjRefIdeal : Cert.ProjRefIdeal.Facts) (hMerge : Cert.Merge.Facts) (hMergeIdeal : Cert.MergeIdeal.Facts) (hMergeRefIdeal : Cert.MergeRefIdeal.Facts) (hSgu : Cert.Sgu.Facts) (hSguIdeal : Cert.SguIdeal.Facts) (hSguRefIdeal : Cert.SguRefIdeal.Facts) (hRope : Cert.Rope.Facts) (hRopeIdeal : Cert.RopeIdeal.Facts) (hRopeRefIdeal : Cert.RopeRefIdeal.Facts) (hDn : Cert.Dn.Facts) (hDnIdeal : Cert.DnIdeal.Facts) (hPre_finite_with_tables : Cert.Pre_finite_with_tables.Facts),
    quiescent_Swa (hSwa := hSwa)
    ∧ quiescent_SwaIdeal (hSwaIdeal := hSwaIdeal)
    ∧ quiescent_SwaIdeal_pre_finite_with_tables (hSwaIdeal := hSwaIdeal) (hPre_finite_with_tables := hPre_finite_with_tables)
    ∧ quiescent_SwaRefIdeal (hSwaRefIdeal := hSwaRefIdeal)
    ∧ quiescent_SwaRefIdeal_pre_finite_with_tables (hSwaRefIdeal := hSwaRefIdeal) (hPre_finite_with_tables := hPre_finite_with_tables)
    ∧ quiescent_Ffn (hFfn := hFfn)
    ∧ quiescent_FfnIdeal (hFfnIdeal := hFfnIdeal)
    ∧ quiescent_FfnRefIdeal (hFfnRefIdeal := hFfnRefIdeal)
    ∧ quiescent_FfnInner (hFfnInner := hFfnInner)
    ∧ quiescent_FfnInnerIdeal (hFfnInnerIdeal := hFfnInnerIdeal)
    ∧ quiescent_FfnInnerRefIdeal (hFfnInnerRefIdeal := hFfnInnerRefIdeal)
    ∧ quiescent_Proj (hProj := hProj)
    ∧ quiescent_ProjIdeal (hProjIdeal := hProjIdeal)
    ∧ quiescent_ProjRefIdeal (hProjRefIdeal := hProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Sgu (hSgu := hSgu)
    ∧ quiescent_SguIdeal (hSguIdeal := hSguIdeal)
    ∧ quiescent_SguRefIdeal (hSguRefIdeal := hSguRefIdeal)
    ∧ quiescent_Rope (hRope := hRope)
    ∧ quiescent_RopeIdeal (hRopeIdeal := hRopeIdeal)
    ∧ quiescent_RopeRefIdeal (hRopeRefIdeal := hRopeRefIdeal)
    ∧ quiescent_Dn (hDn := hDn)
    ∧ quiescent_DnIdeal (hDnIdeal := hDnIdeal)
    ∧ preserves_Swa_SwaIdeal
    ∧ algebraic_SwaIdeal_SwaRefIdeal_pre_finite_with_tables (hSwaIdeal := hSwaIdeal) (hSwaRefIdeal := hSwaRefIdeal) (hPre_finite_with_tables := hPre_finite_with_tables)
    ∧ preserves_Ffn_FfnIdeal
    ∧ algebraic_FfnIdeal_FfnRefIdeal (hFfnIdeal := hFfnIdeal) (hFfnRefIdeal := hFfnRefIdeal)
    ∧ preserves_FfnInner_FfnInnerIdeal
    ∧ algebraic_FfnInnerIdeal_FfnInnerRefIdeal (hFfnInnerIdeal := hFfnInnerIdeal) (hFfnInnerRefIdeal := hFfnInnerRefIdeal)
    ∧ preserves_Proj_ProjIdeal
    ∧ algebraic_ProjIdeal_ProjRefIdeal (hProjIdeal := hProjIdeal) (hProjRefIdeal := hProjRefIdeal)
    ∧ preserves_Merge_MergeIdeal
    ∧ algebraic_MergeIdeal_MergeRefIdeal (hMergeIdeal := hMergeIdeal) (hMergeRefIdeal := hMergeRefIdeal)
    ∧ preserves_Sgu_SguIdeal
    ∧ algebraic_SguIdeal_SguRefIdeal (hSguIdeal := hSguIdeal) (hSguRefIdeal := hSguRefIdeal)
    ∧ preserves_Rope_RopeIdeal
    ∧ algebraic_RopeIdeal_RopeRefIdeal (hRopeIdeal := hRopeIdeal) (hRopeRefIdeal := hRopeRefIdeal)
    ∧ preserves_Dn_DnIdeal
-- ==== Pre_finite_with_tables.lean ====
abbrev S16384x7040 : Shape := ⟨2, ![16384, 7040]⟩
abbrev S16384x128 : Shape := ⟨2, ![16384, 128]⟩
abbrev S8 : Shape := ⟨1, ![8]⟩
abbrev S16384x8 : Shape := ⟨2, ![16384, 8]⟩
abbrev S_ : Shape := ⟨0, ![]⟩
abbrev S16384x48 : Shape := ⟨2, ![16384, 48]⟩
abbrev S1x8 : Shape := ⟨2, ![1, 8]⟩
abbrev S16x8 : Shape := ⟨2, ![16, 8]⟩
abbrev S128 : Shape := ⟨1, ![128]⟩
abbrev S1x128 : Shape := ⟨2, ![1, 128]⟩

class Facts : Prop where
  slices_S16384x128_S16384x8_0_0 : S16384x128.Slices ![0, 0] S16384x8
  slices_S16384x128_S16384x8_0_8 : S16384x128.Slices ![0, 8] S16384x8
  bcast_S_S16384x48 : S_.BroadcastsInDim S16384x48 (![] : Fin 0 → Fin S16384x48.rank)
  concatenates_S16384x8_S16384x8_S16384x48_S16384x8_S16384x8_S16384x48_S16384x128_d1 : Shape.Concatenates [S16384x8, S16384x8, S16384x48, S16384x8, S16384x8, S16384x48] S16384x128 1
  shapeCasts_S8_S1x8 : S8.ShapeCasts S1x8
  bcast_S1x8_S16x8_0_1 : S1x8.BroadcastsInDim S16x8 (![0, 1] : Fin 2 → Fin S16x8.rank)
  shapeCasts_S16x8_S128 : S16x8.ShapeCasts S128
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  slices_S16384x7040_S16384x128_0_5632 : S16384x7040.Slices ![0, 5632] S16384x128
  slices_S16384x7040_S16384x128_0_5760 : S16384x7040.Slices ![0, 5760] S16384x128
  slices_S16384x7040_S16384x128_0_5888 : S16384x7040.Slices ![0, 5888] S16384x128
  slices_S16384x7040_S16384x128_0_6016 : S16384x7040.Slices ![0, 6016] S16384x128
  slices_S16384x7040_S16384x128_0_6656 : S16384x7040.Slices ![0, 6656] S16384x128
  bcast_S_S16384x128 : S_.BroadcastsInDim S16384x128 (![] : Fin 0 → Fin S16384x128.rank)

variable [Facts]

def fn_part2 {F : FTy → Type} [FloatOps F] (main_v18 : FVec F S16384x128 .f32) (main_v19 : FVec F S16384x128 .f32) (main_v20 : FVec F S16384x128 .f32) (main_v40 : IVec S16384x128 1) : IVec S16384x128 1 :=
  let main_v41 : FVec F S16384x128 .f32 := Host.absf main_v18
  let main_cst_6 : FVec F S_ .f32 := constant S_ .f32 0x7F800000#32
  let main_v42 : FVec F S16384x128 .f32 := broadcastInDim S16384x128 ![] bcast_S_S16384x128 main_cst_6
  let main_v43 : IVec S16384x128 1 := cmpf .olt main_v41 main_v42
  let main_v44 : IVec S16384x128 1 := andi main_v40 main_v43
  let main_v45 : FVec F S16384x128 .f32 := Host.absf main_v19
  let main_cst_7 : FVec F S_ .f32 := constant S_ .f32 0x7F800000#32
  let main_v46 : FVec F S16384x128 .f32 := broadcastInDim S16384x128 ![] bcast_S_S16384x128 main_cst_7
  let main_v47 : IVec S16384x128 1 := cmpf .olt main_v45 main_v46
  let main_v48 : IVec S16384x128 1 := andi main_v44 main_v47
  let main_v49 : FVec F S16384x128 .f32 := Host.absf main_v20
  let main_cst_8 : FVec F S_ .f32 := constant S_ .f32 0x7F800000#32
  let main_v50 : FVec F S16384x128 .f32 := broadcastInDim S16384x128 ![] bcast_S_S16384x128 main_cst_8
  let main_v51 : IVec S16384x128 1 := cmpf .olt main_v49 main_v50
  let main_v52 : IVec S16384x128 1 := andi main_v48 main_v51
  main_v52

def fn_part1 {F : FTy → Type} [FloatOps F] (main_arg2 : FVec F S16384x128 .f32) (main_v10 : IVec S16384x128 1) (main_v15 : FVec F S16384x128 .f32) (main_v16 : FVec F S16384x128 .f32) (main_v17 : FVec F S16384x128 .f32) (main_v18 : FVec F S16384x128 .f32) (main_v19 : FVec F S16384x128 .f32) (main_v20 : FVec F S16384x128 .f32) (main_v21 : FVec F S16384x128 .f32) : IVec S16384x128 1 :=
  let main_cst_1 : FVec F S_ .f32 := constant S_ .f32 0x7F800000#32
  let main_v22 : FVec F S16384x128 .f32 := broadcastInDim S16384x128 ![] bcast_S_S16384x128 main_cst_1
  let main_v23 : IVec S16384x128 1 := cmpf .olt main_v21 main_v22
  let main_v24 : IVec S16384x128 1 := andi main_v10 main_v23
  let main_v25 : FVec F S16384x128 .f32 := Host.absf main_arg2
  let main_cst_2 : FVec F S_ .f32 := constant S_ .f32 0x7F800000#32
  let main_v26 : FVec F S16384x128 .f32 := broadcastInDim S16384x128 ![] bcast_S_S16384x128 main_cst_2
  let main_v27 : IVec S16384x128 1 := cmpf .olt main_v25 main_v26
  let main_v28 : IVec S16384x128 1 := andi main_v24 main_v27
  let main_v29 : FVec F S16384x128 .f32 := Host.absf main_v15
  let main_cst_3 : FVec F S_ .f32 := constant S_ .f32 0x7F800000#32
  let main_v30 : FVec F S16384x128 .f32 := broadcastInDim S16384x128 ![] bcast_S_S16384x128 main_cst_3
  let main_v31 : IVec S16384x128 1 := cmpf .olt main_v29 main_v30
  let main_v32 : IVec S16384x128 1 := andi main_v28 main_v31
  let main_v33 : FVec F S16384x128 .f32 := Host.absf main_v16
  let main_cst_4 : FVec F S_ .f32 := constant S_ .f32 0x7F800000#32
  let main_v34 : FVec F S16384x128 .f32 := broadcastInDim S16384x128 ![] bcast_S_S16384x128 main_cst_4
  let main_v35 : IVec S16384x128 1 := cmpf .olt main_v33 main_v34
  let main_v36 : IVec S16384x128 1 := andi main_v32 main_v35
  let main_v37 : FVec F S16384x128 .f32 := Host.absf main_v17
  let main_cst_5 : FVec F S_ .f32 := constant S_ .f32 0x7F800000#32
  let main_v38 : FVec F S16384x128 .f32 := broadcastInDim S16384x128 ![] bcast_S_S16384x128 main_cst_5
  let main_v39 : IVec S16384x128 1 := cmpf .olt main_v37 main_v38
  let main_v40 : IVec S16384x128 1 := andi main_v36 main_v39
  fn_part2 (F := F) main_v18 main_v19 main_v20 main_v40

def fn {F : FTy → Type} [FloatOps F] (main_arg0 : FVec F S16384x7040 .f32) (main_arg1 : FVec F S16384x128 .f32) (main_arg2 : FVec F S16384x128 .f32) (main_arg3 : FVec F S8 .f32) : IVec S16384x128 1 :=
  let main_v0 : FVec F S16384x8 .f32 := (extractStridedSlice S16384x8 ![0, 0] · slices_S16384x128_S16384x8_0_0) main_arg1
  let main_v1 : FVec F S16384x8 .f32 := (extractStridedSlice S16384x8 ![0, 8] · slices_S16384x128_S16384x8_0_8) main_arg2
  let main_cst : FVec F S_ .f32 := constant S_ .f32 0x3F800000#32
  let main_v2 : FVec F S16384x48 .f32 := broadcastInDim S16384x48 ![] bcast_S_S16384x48 main_cst
  let main_cst_0 : FVec F S_ .f32 := constant S_ .f32 0x00000000#32
  let main_v3 : FVec F S16384x48 .f32 := broadcastInDim S16384x48 ![] bcast_S_S16384x48 main_cst_0
  let main_v4 : FVec F S16384x128 .f32 := concatenate S16384x128 1 [⟨S16384x8, main_v0⟩, ⟨S16384x8, main_v0⟩, ⟨S16384x48, main_v2⟩, ⟨S16384x8, main_v0⟩, ⟨S16384x8, main_v0⟩, ⟨S16384x48, main_v2⟩] concatenates_S16384x8_S16384x8_S16384x48_S16384x8_S16384x8_S16384x48_S16384x128_d1
  let main_v5 : FVec F S16384x8 .f32 := Host.negf main_v1
  let main_v6 : FVec F S16384x8 .f32 := Host.negf main_v1
  let main_v7 : FVec F S16384x128 .f32 := concatenate S16384x128 1 [⟨S16384x8, main_v5⟩, ⟨S16384x8, main_v1⟩, ⟨S16384x48, main_v3⟩, ⟨S16384x8, main_v6⟩, ⟨S16384x8, main_v1⟩, ⟨S16384x48, main_v3⟩] concatenates_S16384x8_S16384x8_S16384x48_S16384x8_S16384x8_S16384x48_S16384x128_d1
  let main_v8 : IVec S16384x128 1 := cmpf .oeq main_arg1 main_v4
  let main_v9 : IVec S16384x128 1 := cmpf .oeq main_arg2 main_v7
  let main_v10 : IVec S16384x128 1 := andi main_v8 main_v9
  let main_v11 : FVec F S1x8 .f32 := shapeCast S1x8 main_arg3 shapeCasts_S8_S1x8
  let main_v12 : FVec F S16x8 .f32 := broadcastInDim S16x8 ![0, 1] bcast_S1x8_S16x8_0_1 main_v11
  let main_v13 : FVec F S128 .f32 := shapeCast S128 main_v12 shapeCasts_S16x8_S128
  let main_v14 : FVec F S1x128 .f32 := broadcastInDim S1x128 ![1] bcast_S128_S1x128_1 main_v13
  let main_v15 : FVec F S16384x128 .f32 := broadcastInDim S16384x128 ![0, 1] bcast_S1x128_S16384x128_0_1 main_v14
  let main_v16 : FVec F S16384x128 .f32 := (extractStridedSlice S16384x128 ![0, 5632] · slices_S16384x7040_S16384x128_0_5632) main_arg0
  let main_v17 : FVec F S16384x128 .f32 := (extractStridedSlice S16384x128 ![0, 5760] · slices_S16384x7040_S16384x128_0_5760) main_arg0
  let main_v18 : FVec F S16384x128 .f32 := (extractStridedSlice S16384x128 ![0, 5888] · slices_S16384x7040_S16384x128_0_5888) main_arg0
  let main_v19 : FVec F S16384x128 .f32 := (extractStridedSlice S16384x128 ![0, 6016] · slices_S16384x7040_S16384x128_0_6016) main_arg0
  let main_v20 : FVec F S16384x128 .f32 := (extractStridedSlice S16384x128 ![0, 6656] · slices_S16384x7040_S16384x128_0_6656) main_arg0
  let main_v21 : FVec F S16384x128 .f32 := Host.absf main_arg1
  fn_part1 (F := F) main_arg2 main_v10 main_v15 main_v16 main_v17 main_v18 main_v19 main_v20 main_v21
-- ==== Swa.lean ====
abbrev S16384x7040 : Shape := ⟨2, ![16384, 7040]⟩
abbrev S16384x128 : Shape := ⟨2, ![16384, 128]⟩
abbrev S8 : Shape := ⟨1, ![8]⟩
abbrev S16384x512 : Shape := ⟨2, ![16384, 512]⟩
abbrev S128x512 : Shape := ⟨2, ![128, 512]⟩
abbrev S128x128 : Shape := ⟨2, ![128, 128]⟩
abbrev S256x128 : Shape := ⟨2, ![256, 128]⟩
abbrev S256x256 : Shape := ⟨2, ![256, 256]⟩
abbrev S256x1 : Shape := ⟨2, ![256, 1]⟩
abbrev S1 : Shape := ⟨1, ![1]⟩
abbrev S256 : Shape := ⟨1, ![256]⟩

abbrev nBuf : Space → Nat
  | .hbm => 5
  | .vmem => 20
  | .smem => 1
  | _ => 0

abbrev bufTy : (tb : Table) → Fin (tcTables nBuf tb) → BufTy
  | .hbm, ⟨0, _⟩ => ⟨S16384x7040, .f32⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x512, .f32⟩
  | .local _ .vmem, ⟨19, _⟩ => ⟨S128x512, .f32⟩
  | .local _ .smem, ⟨0, _⟩ => ⟨S8, .f32⟩
  | _, _ => ⟨S16384x7040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![2, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c11_i32 : BitVec 32 := 11#32
  let c0_i32 : BitVec 32 := 0#32
  ![v1.toNat, c11_i32.toNat]

def cc0_transform_2 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c52_i32 : BitVec 32 := 52#32
  let c0_i32 : BitVec 32 := 0#32
  ![v1.toNat, c52_i32.toNat]

def cc0_transform_3 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c52_i32 : BitVec 32 := 52#32
  let c0_i32_0 : BitVec 32 := 0#32
  ![v3.toNat, c52_i32.toNat]

def cc0_transform_4 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c53_i32 : BitVec 32 := 53#32
  let c0_i32 : BitVec 32 := 0#32
  ![v1.toNat, c53_i32.toNat]

def cc0_transform_5 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c53_i32 : BitVec 32 := 53#32
  let c0_i32_0 : BitVec 32 := 0#32
  ![v3.toNat, c53_i32.toNat]

def cc0_transform_6 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi arg1 c1_i32
  let c0_i32 : BitVec 32 := 0#32
  let v2 : BitVec 32 := Scalar.maxsi v1 c0_i32
  let v3 : BitVec 32 := Scalar.addi v0 v2
  let c0_i32_0 : BitVec 32 := 0#32
  let c0_i32_1 : BitVec 32 := 0#32
  ![v3.toNat, c0_i32_0.toNat]

def cc0_transform_10 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S128x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== SwaIdeal.lean ====
variable {F : FTy → Type} [FloatOps F] [Named F]
def κ : String → Option EReal := fun
  | "mask" => some ⊥
  | _ => none
-- ==== SwaRefIdeal.lean ====
abbrev S16384x7040 : Shape := ⟨2, ![16384, 7040]⟩
abbrev S16384x128 : Shape := ⟨2, ![16384, 128]⟩
abbrev S8 : Shape := ⟨1, ![8]⟩
abbrev S16384x8 : Shape := ⟨2, ![16384, 8]⟩
abbrev S2x8192x1x8 : Shape := ⟨4, ![2, 8192, 1, 8]⟩
abbrev S16384x512 : Shape := ⟨2, ![16384, 512]⟩
abbrev S2x8192x8x64 : Shape := ⟨4, ![2, 8192, 8, 64]⟩
abbrev S2x8192x2x64 : Shape := ⟨4, ![2, 8192, 2, 64]⟩
abbrev S2x8192x8x8 : Shape := ⟨4, ![2, 8192, 8, 8]⟩
abbrev S2x8192x8x48 : Shape := ⟨4, ![2, 8192, 8, 48]⟩
abbrev S_ : Shape := ⟨0, ![]⟩
abbrev S2x8192x2x8 : Shape := ⟨4, ![2, 8192, 2, 8]⟩
abbrev S2x8192x2x48 : Shape := ⟨4, ![2, 8192, 2, 48]⟩
abbrev S2x64x128x2x4x64 : Shape := ⟨6, ![2, 64, 128, 2, 4, 64]⟩
abbrev S2x64x128x2x64 : Shape := ⟨5, ![2, 64, 128, 2, 64]⟩
abbrev S2x1x128x2x64 : Shape := ⟨5, ![2, 1, 128, 2, 64]⟩
abbrev S2x63x128x2x64 : Shape := ⟨5, ![2, 63, 128, 2, 64]⟩
abbrev S2x64x256x2x64 : Shape := ⟨5, ![2, 64, 256, 2, 64]⟩
abbrev S2x64x2x256x128x4 : Shape := ⟨6, ![2, 64, 2, 256, 128, 4]⟩
abbrev S2x64x2x4x128x256 : Shape := ⟨6, ![2, 64, 2, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S1x64x1x1x128x256 : Shape := ⟨6, ![1, 64, 1, 1, 128, 256]⟩
abbrev S1x1x2x4x1x1 : Shape := ⟨6, ![1, 1, 2, 4, 1, 1]⟩
abbrev S2x64x2x4x128x1 : Shape := ⟨6, ![2, 64, 2, 4, 128, 1]⟩
abbrev S2x64x2x4x128x257 : Shape := ⟨6, ![2, 64, 2, 4, 128, 257]⟩
abbrev S2x64x2x4x128 : Shape := ⟨5, ![2, 64, 2, 4, 128]⟩
abbrev S2x64x2x64x4x128 : Shape := ⟨6, ![2, 64, 2, 64, 4, 128]⟩

abbrev nBuf : Space → Nat
  | .hbm => 122
  | .vmem => 0
  | .smem => 0
  | _ => 0

abbrev bufTy : (tb : Table) → Fin (tcTables nBuf tb) → BufTy
  | .hbm, ⟨0, _⟩ => ⟨S16384x7040, .f32⟩
  | .hbm, ⟨1, _⟩ => ⟨S16384x128, .f32⟩
  | .hbm, ⟨2, _⟩ => ⟨S16384x128, .f32⟩
  | .hbm, ⟨3, _⟩ => ⟨S8, .f32⟩
  | .hbm, ⟨4, _⟩ => ⟨S16384x8, .f32⟩
  | .hbm, ⟨5, _⟩ => ⟨S2x8192x1x8, .f32⟩
  | .hbm, ⟨6, _⟩ => ⟨S16384x8, .f32⟩
  | .hbm, ⟨7, _⟩ => ⟨S2x8192x1x8, .f32⟩
  | .hbm, ⟨8, _⟩ => ⟨S16384x512, .f32⟩
  | .hbm, ⟨9, _⟩ => ⟨S2x8192x8x64, .f32⟩
  | .hbm, ⟨10, _⟩ => ⟨S16384x128, .f32⟩
  | .hbm, ⟨11, _⟩ => ⟨S2x8192x2x64, .f32⟩
  | .hbm, ⟨12, _⟩ => ⟨S16384x128, .f32⟩
  | .hbm, ⟨13, _⟩ => ⟨S2x8192x2x64, .f32⟩
  | .hbm, ⟨14, _⟩ => ⟨S2x8192x8x8, .f32⟩
  | .hbm, ⟨15, _⟩ => ⟨S2x8192x8x8, .f32⟩
  | .hbm, ⟨16, _⟩ => ⟨S2x8192x8x48, .f32⟩
  | .hbm, ⟨17, _⟩ => ⟨S2x8192x8x8, .f32⟩
  | .hbm, ⟨18, _⟩ => ⟨S2x8192x8x8, .f32⟩
  | .hbm, ⟨19, _⟩ => ⟨S2x8192x8x8, .f32⟩
  | .hbm, ⟨20, _⟩ => ⟨S2x8192x8x8, .f32⟩
  | .hbm, ⟨21, _⟩ => ⟨S2x8192x8x8, .f32⟩
  | .hbm, ⟨22, _⟩ => ⟨S2x8192x8x8, .f32⟩
  | .hbm, ⟨23, _⟩ => ⟨S2x8192x8x8, .f32⟩
  | .hbm, ⟨24, _⟩ => ⟨S2x8192x8x8, .f32⟩
  | .hbm, ⟨25, _⟩ => ⟨S2x8192x8x8, .f32⟩
  | .hbm, ⟨26, _⟩ => ⟨S2x8192x8x8, .f32⟩
  | .hbm, ⟨27, _⟩ => ⟨S2x8192x8x64, .f32⟩
  | .hbm, ⟨28, _⟩ => ⟨S_, .f32⟩
  | .hbm, ⟨29, _⟩ => ⟨S2x8192x8x64, .f32⟩
  | .hbm, ⟨30, _⟩ => ⟨S2x8192x8x64, .f32⟩
  | .hbm, ⟨31, _⟩ => ⟨S2x8192x2x8, .f32⟩
  | .hbm, ⟨32, _⟩ => ⟨S2x8192x2x8, .f32⟩
  | .hbm, ⟨33, _⟩ => ⟨S2x8192x2x48, .f32⟩
  | .hbm, ⟨34, _⟩ => ⟨S2x8192x2x8, .f32⟩
  | .hbm, ⟨35, _⟩ => ⟨S2x8192x2x8, .f32⟩
  | .hbm, ⟨36, _⟩ => ⟨S2x8192x2x8, .f32⟩
  | .hbm, ⟨37, _⟩ => ⟨S2x8192x2x8, .f32⟩
  | .hbm, ⟨38, _⟩ => ⟨S2x8192x2x8, .f32⟩
  | .hbm, ⟨39, _⟩ => ⟨S2x8192x2x8, .f32⟩
  | .hbm, ⟨40, _⟩ => ⟨S2x8192x2x8, .f32⟩
  | .hbm, ⟨41, _⟩ => ⟨S2x8192x2x8, .f32⟩
  | .hbm, ⟨42, _⟩ => ⟨S2x8192x2x8, .f32⟩
  | .hbm, ⟨43, _⟩ => ⟨S2x8192x2x8, .f32⟩
  | .hbm, ⟨44, _⟩ => ⟨S2x8192x2x64, .f32⟩
  | .hbm, ⟨45, _⟩ => ⟨S2x64x128x2x4x64, .f32⟩
  | .hbm, ⟨46, _⟩ => ⟨S2x64x128x2x64, .f32⟩
  | .hbm, ⟨47, _⟩ => ⟨S2x1x128x2x64, .f32⟩
  | .hbm, ⟨48, _⟩ => ⟨S_, .f32⟩
  | .hbm, ⟨49, _⟩ => ⟨S2x1x128x2x64, .f32⟩
  | .hbm, ⟨50, _⟩ => ⟨S2x63x128x2x64, .f32⟩
  | .hbm, ⟨51, _⟩ => ⟨S2x64x128x2x64, .f32⟩
  | .hbm, ⟨52, _⟩ => ⟨S2x64x256x2x64, .f32⟩
  | .hbm, ⟨53, _⟩ => ⟨S2x64x128x2x64, .f32⟩
  | .hbm, ⟨54, _⟩ => ⟨S2x1x128x2x64, .f32⟩
  | .hbm, ⟨55, _⟩ => ⟨S_, .f32⟩
  | .hbm, ⟨56, _⟩ => ⟨S2x1x128x2x64, .f32⟩
  | .hbm, ⟨57, _⟩ => ⟨S2x63x128x2x64, .f32⟩
  | .hbm, ⟨58, _⟩ => ⟨S2x64x128x2x64, .f32⟩
  | .hbm, ⟨59, _⟩ => ⟨S2x64x256x2x64, .f32⟩
  | .hbm, ⟨60, _⟩ => ⟨S2x64x2x256x128x4, .f32⟩
  | .hbm, ⟨61, _⟩ => ⟨S2x64x2x4x128x256, .f32⟩
  | .hbm, ⟨62, _⟩ => ⟨S128, .i32⟩
  | .hbm, ⟨63, _⟩ => ⟨S128x1, .i32⟩
  | .hbm, ⟨64, _⟩ => ⟨S256, .i32⟩
  | .hbm, ⟨65, _⟩ => ⟨S1x256, .i32⟩
  | .hbm, ⟨66, _⟩ => ⟨S_, .i32⟩
  | .hbm, ⟨67, _⟩ => ⟨S128x1, .i32⟩
  | .hbm, ⟨68, _⟩ => ⟨S128x1, .i32⟩
  | .hbm, ⟨69, _⟩ => ⟨S128x256, .i32⟩
  | .hbm, ⟨70, _⟩ => ⟨S128x256, .i32⟩
  | .hbm, ⟨71, _⟩ => ⟨S128x256, .i32⟩
  | .hbm, ⟨72, _⟩ => ⟨S_, .i32⟩
  | .hbm, ⟨73, _⟩ => ⟨S128x256, .i32⟩
  | .hbm, ⟨74, _⟩ => ⟨S128x256, .i1⟩
  | .hbm, ⟨75, _⟩ => ⟨S_, .i32⟩
  | .hbm, ⟨76, _⟩ => ⟨S128x256, .i32⟩
  | .hbm, ⟨77, _⟩ => ⟨S128x256, .i1⟩
  | .hbm, ⟨78, _⟩ => ⟨S128x256, .i1⟩
  | .hbm, ⟨79, _⟩ => ⟨S64, .i32⟩
  | .hbm, ⟨80, _⟩ => ⟨S_, .i32⟩
  | .hbm, ⟨81, _⟩ => ⟨S64, .i32⟩
  | .hbm, ⟨82, _⟩ => ⟨S64, .i1⟩
  | .hbm, ⟨83, _⟩ => ⟨S64x1x1, .i1⟩
  | .hbm, ⟨84, _⟩ => ⟨S_, .i32⟩
  | .hbm, ⟨85, _⟩ => ⟨S1x256, .i32⟩
  | .hbm, ⟨86, _⟩ => ⟨S1x256, .i1⟩
  | .hbm, ⟨87, _⟩ => ⟨S1x1x256, .i1⟩
  | .hbm, ⟨88, _⟩ => ⟨S64x1x256, .i1⟩
  | .hbm, ⟨89, _⟩ => ⟨S64x1x256, .i1⟩
  | .hbm, ⟨90, _⟩ => ⟨S64x1x256, .i1⟩
  | .hbm, ⟨91, _⟩ => ⟨S1x128x256, .i1⟩
  | .hbm, ⟨92, _⟩ => ⟨S64x128x256, .i1⟩
  | .hbm, ⟨93, _⟩ => ⟨S64x128x256, .i1⟩
  | .hbm, ⟨94, _⟩ => ⟨S64x128x256, .i1⟩
  | .hbm, ⟨95, _⟩ => ⟨S1x64x1x1x128x256, .i1⟩
  | .hbm, ⟨96, _⟩ => ⟨S_, .f32⟩
  | .hbm, ⟨97, _⟩ => ⟨S_, .f32⟩
  | .hbm, ⟨98, _⟩ => ⟨S2x64x2x4x128x256, .i1⟩
  | .hbm, ⟨99, _⟩ => ⟨S2x64x2x4x128x256, .f32⟩
  | .hbm, ⟨100, _⟩ => ⟨S2x64x2x4x128x256, .f32⟩
  | .hbm, ⟨101, _⟩ => ⟨S1x1x2x4x1x1, .f32⟩
  | .hbm, ⟨102, _⟩ => ⟨S2x64x2x4x128x1, .f32⟩
  | .hbm, ⟨103, _⟩ => ⟨S2x64x2x4x128x257, .f32⟩
  | .hbm, ⟨104, _⟩ => ⟨S_, .f32⟩
  | .hbm, ⟨105, _⟩ => ⟨S2x64x2x4x128, .f32⟩
  | .hbm, ⟨106, _⟩ => ⟨S_, .f32⟩
  | .hbm, ⟨107, _⟩ => ⟨S2x64x2x4x128, .f32⟩
  | .hbm, ⟨108, _⟩ => ⟨S2x64x2x4x128, .f32⟩
  | .hbm, ⟨109, _⟩ => ⟨S2x64x2x4x128x1, .f32⟩
  | .hbm, ⟨110, _⟩ => ⟨S2x64x2x4x128x257, .f32⟩
  | .hbm, ⟨111, _⟩ => ⟨S2x64x2x4x128x257, .f32⟩
  | .hbm, ⟨112, _⟩ => ⟨S2x64x2x4x128x257, .f32⟩
  | .hbm, ⟨113, _⟩ => ⟨S_, .f32⟩
  | .hbm, ⟨114, _⟩ => ⟨S2x64x2x4x128, .f32⟩
  | .hbm, ⟨115, _⟩ => ⟨S2x64x2x4x128x1, .f32⟩
  | .hbm, ⟨116, _⟩ => ⟨S2x64x2x4x128x257, .f32⟩
  | .hbm, ⟨117, _⟩ => ⟨S2x64x2x4x128x257, .f32⟩
  | .hbm, ⟨118, _⟩ => ⟨S2x64x2x4x128x256, .f32⟩
  | .hbm, ⟨119, _⟩ => ⟨S2x64x2x64x4x128, .f32⟩
  | .hbm, ⟨120, _⟩ => ⟨S2x64x128x2x4x64, .f32⟩
  | .hbm, ⟨121, _⟩ => ⟨S16384x512, .f32⟩
  | _, _ => ⟨S16384x7040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_cst : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_cst_0 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_1 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_c : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_c_2 : Ref sig .tc := ⟨.hbm, 72, rfl⟩
abbrev main_v64 : Ref sig .tc := ⟨.hbm, 73, rfl⟩
abbrev main_v65 : Ref sig .tc := ⟨.hbm, 74, rfl⟩
abbrev main_c_3 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_c_4 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_c_5 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_6 : Ref sig .tc := ⟨.hbm, 96, rfl⟩
abbrev main_call0_v0 : Ref sig .tc := ⟨.hbm, 97, rfl⟩
abbrev main_call0_v1 : Ref sig .tc := ⟨.hbm, 98, rfl⟩
abbrev main_call0_v2 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_7 : Ref sig .tc := ⟨.hbm, 104, rfl⟩
abbrev main_v88 : Ref sig .tc := ⟨.hbm, 105, rfl⟩
abbrev main_cst_8 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_cst_9 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 52
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S_, .f32⟩
  | .hbm, ⟨38, _⟩ => ⟨S16384, .f32⟩
  | .hbm, ⟨39, _⟩ => ⟨S16384x1, .f32⟩
  | .hbm, ⟨40, _⟩ => ⟨S_, .f32⟩
  | .hbm, ⟨41, _⟩ => ⟨S16384x1, .f32⟩
  | .hbm, ⟨42, _⟩ => ⟨S16384x1, .f32⟩
  | .hbm, ⟨43, _⟩ => ⟨S_, .f32⟩
  | .hbm, ⟨44, _⟩ => ⟨S16384x1, .f32⟩
  | .hbm, ⟨45, _⟩ => ⟨S16384x1, .f32⟩
  | .hbm, ⟨46, _⟩ => ⟨S16384x1, .f32⟩
  | .hbm, ⟨47, _⟩ => ⟨S16384x1024, .f32⟩
  | .hbm, ⟨48, _⟩ => ⟨S16384x1024, .f32⟩
  | .hbm, ⟨49, _⟩ => ⟨S1x1024, .f32⟩
  | .hbm, ⟨50, _⟩ => ⟨S16384x1024, .f32⟩
  | .hbm, ⟨51, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_2 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_cst_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩

abbrev nD : Nat := 1
abbrev τ : Topo := Topo.v7x

variable {F : FTy → Type} [FloatOps F]
-- ==== FfnInner.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S512x1024 : Shape := ⟨2, ![512, 1024]⟩
abbrev S1024x1408 : Shape := ⟨2, ![1024, 1408]⟩
abbrev S1408x1024 : Shape := ⟨2, ![1408, 1024]⟩
abbrev S512 : Shape := ⟨1, ![512]⟩
abbrev S512x1 : Shape := ⟨2, ![512, 1]⟩
abbrev S512x1408 : Shape := ⟨2, ![512, 1408]⟩

abbrev nBuf : Space → Nat
  | .hbm => 10
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1408x1024, .bf16⟩
  | .local _ .vmem, ⟨8, _⟩ => ⟨S1408x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi arg1 c2_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== FfnInnerRefIdeal.lean ====
abbrev S16384x1024 : Shape := ⟨2, ![16384, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x5632 : Shape := ⟨2, ![16384, 5632]⟩
abbrev S16384x2816 : Shape := ⟨2, ![16384, 2816]⟩

abbrev nBuf : Space → Nat
  | .hbm => 36
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x5632, .f32⟩
  | .hbm, ⟨22, _⟩ => ⟨S16384x2816, .f32⟩
  | .hbm, ⟨23, _⟩ => ⟨S16384x2816, .f32⟩
  | .hbm, ⟨24, _⟩ => ⟨S16384x2816, .f32⟩
  | .hbm, ⟨25, _⟩ => ⟨S_, .f32⟩
  | .hbm, ⟨26, _⟩ => ⟨S16384x2816, .f32⟩
  | .hbm, ⟨27, _⟩ => ⟨S16384x2816, .f32⟩
  | .hbm, ⟨28, _⟩ => ⟨S_, .f32⟩
  | .hbm, ⟨29, _⟩ => ⟨S16384x2816, .f32⟩
  | .hbm, ⟨30, _⟩ => ⟨S16384x2816, .f32⟩
  | .hbm, ⟨31, _⟩ => ⟨S16384x2816, .f32⟩
  | .hbm, ⟨32, _⟩ => ⟨S16384x2816, .f32⟩
  | .hbm, ⟨33, _⟩ => ⟨S16384x2816, .f32⟩
  | .hbm, ⟨34, _⟩ => ⟨S16384x1024, .f32⟩
  | .hbm, ⟨35, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩

abbrev nD : Nat := 1
abbrev τ : Topo := Topo.v7x

variable {F : FTy → Type} [FloatOps F]
-- ==== Proj.lean ====
abbrev S16384x1024 : Shape := ⟨2, ![16384, 1024]⟩
abbrev S1024 : Shape := ⟨1, ![1024]⟩
abbrev S1024x7040 : Shape := ⟨2, ![1024, 7040]⟩
abbrev S1x1024 : Shape := ⟨2, ![1, 1024]⟩
abbrev S16384x7040 : Shape := ⟨2, ![16384, 7040]⟩
abbrev S512x1024 : Shape := ⟨2, ![512, 1024]⟩
abbrev S1024x1408 : Shape := ⟨2, ![1024, 1408]⟩
abbrev S512x1408 : Shape := ⟨2, ![512, 1408]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7040, .bf16⟩
  | .hbm, ⟨3, _⟩ => ⟨S1x1024, .f32⟩
  | .hbm, ⟨4, _⟩ => ⟨S16384x7040, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1408, .bf16⟩
  | .local _ .vmem, ⟨4, _⟩ => ⟨S1024x1408, .bf16⟩
  | .local _ .vmem, ⟨5, _⟩ => ⟨S512x1408, .f32⟩
  | .local _ .vmem, ⟨6, _⟩ => ⟨S512x1408, .f32⟩
  | .local _ .vmem, ⟨7, _⟩ => ⟨S512x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![32, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S16384x1024 : Shape := ⟨2, ![16384, 1024]⟩
abbrev S1024 : Shape := ⟨1, ![1024]⟩
abbrev S1024x7040 : Shape := ⟨2, ![1024, 7040]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7040 : Shape := ⟨2, ![16384, 7040]⟩

abbrev nBuf : Space → Nat
  | .hbm => 21
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7040, .bf16⟩
  | .hbm, ⟨3, _⟩ => ⟨S16384x1024, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x1024, .f32⟩
  | .hbm, ⟨15, _⟩ => ⟨S16384x1024, .f32⟩
  | .hbm, ⟨16, _⟩ => ⟨S1x1024, .f32⟩
  | .hbm, ⟨17, _⟩ => ⟨S16384x1024, .f32⟩
  | .hbm, ⟨18, _⟩ => ⟨S16384x1024, .f32⟩
  | .hbm, ⟨19, _⟩ => ⟨S1024x7040, .f32⟩
  | .hbm, ⟨20, _⟩ => ⟨S16384x7040, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Merge.lean ====
abbrev S16384x1024 : Shape := ⟨2, ![16384, 1024]⟩
abbrev S16384x7040 : Shape := ⟨2, ![16384, 7040]⟩
abbrev S16384x512 : Shape := ⟨2, ![16384, 512]⟩
abbrev S3x512x1024 : Shape := ⟨3, ![3, 512, 1024]⟩
abbrev S1024x1024 : Shape := ⟨2, ![1024, 1024]⟩
abbrev S512x1024 : Shape := ⟨2, ![512, 1024]⟩
abbrev S512x3072 : Shape := ⟨2, ![512, 3072]⟩
abbrev S512x512 : Shape := ⟨2, ![512, 512]⟩
abbrev S1x512x1024 : Shape := ⟨3, ![1, 512, 1024]⟩

abbrev nBuf : Space → Nat
  | .hbm => 10
  | .vmem => 14
  | .smem => 0
  | _ => 0

abbrev bufTy : (tb : Table) → Fin (tcTables nBuf tb) → BufTy
  | .hbm, ⟨0, _⟩ => ⟨S16384x1024, .f32⟩
  | .hbm, ⟨1, _⟩ => ⟨S16384x7040, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S3x512x1024, .f32⟩
  | .hbm, ⟨6, _⟩ => ⟨S1024x1024, .f32⟩
  | .hbm, ⟨7, _⟩ => ⟨S3x512x1024, .bf16⟩
  | .hbm, ⟨8, _⟩ => ⟨S1024x1024, .bf16⟩
  | .hbm, ⟨9, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x3072, .f32⟩
  | .local _ .vmem, ⟨3, _⟩ => ⟨S512x3072, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S3x512x1024, .bf16⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x3072 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S3x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MergeRefIdeal.lean ====
abbrev S16384x1024 : Shape := ⟨2, ![16384, 1024]⟩
abbrev S16384x7040 : Shape := ⟨2, ![16384, 7040]⟩
abbrev S16384x512 : Shape := ⟨2, ![16384, 512]⟩
abbrev S3x512x1024 : Shape := ⟨3, ![3, 512, 1024]⟩
abbrev S1024x1024 : Shape := ⟨2, ![1024, 1024]⟩
abbrev S16384x3072 : Shape := ⟨2, ![16384, 3072]⟩
abbrev S_ : Shape := ⟨0, ![]⟩
abbrev S1x512x1024 : Shape := ⟨3, ![1, 512, 1024]⟩
abbrev S512x1024 : Shape := ⟨2, ![512, 1024]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x7040, .f32⟩
  | .hbm, ⟨2, _⟩ => ⟨S16384x512, .f32⟩
  | .hbm, ⟨3, _⟩ => ⟨S16384x512, .f32⟩
  | .hbm, ⟨4, _⟩ => ⟨S16384x512, .f32⟩
  | .hbm, ⟨5, _⟩ => ⟨S3x512x1024, .f32⟩
  | .hbm, ⟨6, _⟩ => ⟨S1024x1024, .f32⟩
  | .hbm, ⟨7, _⟩ => ⟨S16384x3072, .f32⟩
  | .hbm, ⟨8, _⟩ => ⟨S16384x3072, .f32⟩
  | .hbm, ⟨9, _⟩ => ⟨S16384x3072, .f32⟩
  | .hbm, ⟨10, _⟩ => ⟨S_, .f32⟩
  | .hbm, ⟨11, _⟩ => ⟨S16384x3072, .f32⟩
  | .hbm, ⟨12, _⟩ => ⟨S16384x3072, .f32⟩
  | .hbm, ⟨13, _⟩ => ⟨S_, .f32⟩
  | .hbm, ⟨14, _⟩ => ⟨S16384x3072, .f32⟩
  | .hbm, ⟨15, _⟩ => ⟨S16384x3072, .f32⟩
  | .hbm, ⟨16, _⟩ => ⟨S16384x1024, .f32⟩
  | .hbm, ⟨17, _⟩ => ⟨S1x512x1024, .f32⟩
  | .hbm, ⟨18, _⟩ => ⟨S512x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S1x512x1024, .f32⟩
  | .hbm, ⟨23, _⟩ => ⟨S512x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S1x512x1024, .f32⟩
  | .hbm, ⟨29, _⟩ => ⟨S512x1024, .f32⟩
  | .hbm, ⟨30, _⟩ => ⟨S16384x1024, .f32⟩
  | .hbm, ⟨31, _⟩ => ⟨S16384x1024, .f32⟩
  | .hbm, ⟨32, _⟩ => ⟨S16384x1024, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== Sgu.lean ====
abbrev S16384x7040 : Shape := ⟨2, ![16384, 7040]⟩
abbrev S512 : Shape := ⟨1, ![512]⟩
abbrev S4x128x128 : Shape := ⟨3, ![4, 128, 128]⟩
abbrev S4x128 : Shape := ⟨2, ![4, 128]⟩
abbrev S1x512 : Shape := ⟨2, ![1, 512]⟩
abbrev S128x4 : Shape := ⟨2, ![128, 4]⟩
abbrev S16384x512 : Shape := ⟨2, ![16384, 512]⟩
abbrev S128x512 : Shape := ⟨2, ![128, 512]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 9
  | .vmem => 10
  | .smem => 0
  | _ => 0

abbrev bufTy : (tb : Table) → Fin (tcTables nBuf tb) → BufTy
  | .hbm, ⟨0, _⟩ => ⟨S16384x7040, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S1x512, .f32⟩
  | .hbm, ⟨6, _⟩ => ⟨S1x512, .f32⟩
  | .hbm, ⟨7, _⟩ => ⟨S128x4, .f32⟩
  | .hbm, ⟨8, _⟩ => ⟨S16384x512, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S1x512, .f32⟩
  | .local _ .vmem, ⟨5, _⟩ => ⟨S1x512, .f32⟩
  | .local _ .vmem, ⟨6, _⟩ => ⟨S4x128x128, .f32⟩
  | .local _ .vmem, ⟨7, _⟩ => ⟨S128x4, .f32⟩
  | .local _ .vmem, ⟨8, _⟩ => ⟨S128x512, .f32⟩
  | .local _ .vmem, ⟨9, _⟩ => ⟨S128x512, .f32⟩
  | _, _ => ⟨S16384x7040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SguRefIdeal.lean ====
abbrev S16384x7040 : Shape := ⟨2, ![16384, 7040]⟩
abbrev S512 : Shape := ⟨1, ![512]⟩
abbrev S4x128x128 : Shape := ⟨3, ![4, 128, 128]⟩
abbrev S4x128 : Shape := ⟨2, ![4, 128]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S128x128x4x128 : Shape := ⟨4, ![128, 128, 4, 128]⟩
abbrev S128x128 : Shape := ⟨2, ![128, 128]⟩
abbrev S4x128x128x128 : Shape := ⟨4, ![4, 128, 128, 128]⟩
abbrev S128x4 : Shape := ⟨2, ![128, 4]⟩
abbrev S1x128x4x1 : Shape := ⟨4, ![1, 128, 4, 1]⟩

abbrev nBuf : Space → Nat
  | .hbm => 93
  | .vmem => 0
  | .smem => 0
  | _ => 0

abbrev bufTy : (tb : Table) → Fin (tcTables nBuf tb) → BufTy
  | .hbm, ⟨0, _⟩ => ⟨S16384x7040, .f32⟩
  | .hbm, ⟨1, _⟩ => ⟨S512, .f32⟩
  | .hbm, ⟨2, _⟩ => ⟨S512, .f32⟩
  | .hbm, ⟨3, _⟩ => ⟨S4x128x128, .f32⟩
  | .hbm, ⟨4, _⟩ => ⟨S4x128, .f32⟩
  | .hbm, ⟨5, _⟩ => ⟨S16384x512, .f32⟩
  | .hbm, ⟨6, _⟩ => ⟨S16384x512, .f32⟩
  | .hbm, ⟨7, _⟩ => ⟨S16384x512, .f32⟩
  | .hbm, ⟨8, _⟩ => ⟨S_, .f32⟩
  | .hbm, ⟨9, _⟩ => ⟨S16384x512, .f32⟩
  | .hbm, ⟨10, _⟩ => ⟨S16384x512, .f32⟩
  | .hbm, ⟨11, _⟩ => ⟨S16384x512, .f32⟩
  | .hbm, ⟨12, _⟩ => ⟨S_, .f32⟩
  | .hbm, ⟨13, _⟩ => ⟨S16384x512, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S_, .f32⟩
  | .hbm, ⟨20, _⟩ => ⟨S16384x512, .f32⟩
  | .hbm, ⟨21, _⟩ => ⟨S16384x512, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S_, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S_, .f32⟩
  | .hbm, ⟨31, _⟩ => ⟨S16384x512, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S_, .f32⟩
  | .hbm, ⟨42, _⟩ => ⟨S16384, .f32⟩
  | .hbm, ⟨43, _⟩ => ⟨S16384x1, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S_, .f32⟩
  | .hbm, ⟨54, _⟩ => ⟨S16384x1, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S16384x1, .f32⟩
  | .hbm, ⟨60, _⟩ => ⟨S16384x512, .f32⟩
  | .hbm, ⟨61, _⟩ => ⟨S16384x512, .f32⟩
  | .hbm, ⟨62, _⟩ => ⟨S1x512, .f32⟩
  | .hbm, ⟨63, _⟩ => ⟨S16384x512, .f32⟩
  | .hbm, ⟨64, _⟩ => ⟨S16384x512, .f32⟩
  | .hbm, ⟨65, _⟩ => ⟨S1x512, .f32⟩
  | .hbm, ⟨66, _⟩ => ⟨S16384x512, .f32⟩
  | .hbm, ⟨67, _⟩ => ⟨S16384x512, .f32⟩
  | .hbm, ⟨68, _⟩ => ⟨S128x128x4x128, .f32⟩
  | .hbm, ⟨69, _⟩ => ⟨S_, .i1⟩
  | .hbm, ⟨70, _⟩ => ⟨S128x128, .i1⟩
  | .hbm, ⟨71, _⟩ => ⟨S128x128, .i32⟩
  | .hbm, ⟨72, _⟩ => ⟨S_, .i32⟩
  | .hbm, ⟨73, _⟩ => ⟨S128x128, .i32⟩
  | .hbm, ⟨74, _⟩ => ⟨S128x128, .i32⟩
  | .hbm, ⟨75, _⟩ => ⟨S128x128, .i32⟩
  | .hbm, ⟨76, _⟩ => ⟨S128x128, .i1⟩
  | .hbm, ⟨77, _⟩ => ⟨S_, .i1⟩
  | .hbm, ⟨78, _⟩ => ⟨S128x128, .i1⟩
  | .hbm, ⟨79, _⟩ => ⟨S128x128, .i1⟩
  | .hbm, ⟨80, _⟩ => ⟨S_, .f32⟩
  | .hbm, ⟨81, _⟩ => ⟨S_, .f32⟩
  | .hbm, ⟨82, _⟩ => ⟨S4x128x128, .i1⟩
  | .hbm, ⟨83, _⟩ => ⟨S4x128x128, .f32⟩
  | .hbm, ⟨84, _⟩ => ⟨S4x128x128, .f32⟩
  | .hbm, ⟨85, _⟩ => ⟨S4x128x128x128, .f32⟩
  | .hbm, ⟨86, _⟩ => ⟨S128x128x4x128, .f32⟩
  | .hbm, ⟨87, _⟩ => ⟨S128x4, .f32⟩
  | .hbm, ⟨88, _⟩ => ⟨S1x128x4x1, .f32⟩
  | .hbm, ⟨89, _⟩ => ⟨S128x128x4x128, .f32⟩
  | .hbm, ⟨90, _⟩ => ⟨S128x128x4x128, .f32⟩
  | .hbm, ⟨91, _⟩ => ⟨S16384x512, .f32⟩
  | .hbm, ⟨92, _⟩ => ⟨S16384x512, .f32⟩
  | _, _ => ⟨S16384x7040, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_cst_11 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_c : Ref sig .tc := ⟨.hbm, 69, rfl⟩
abbrev main_v51 : Ref sig .tc := ⟨.hbm, 70, rfl⟩
abbrev main_call0_v0 : Ref sig .tc := ⟨.hbm, 71, rfl⟩
abbrev main_call0_c : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_call0_c_0 : Ref sig .tc := ⟨.hbm, 77, rfl⟩
abbrev main_call0_v5 : Ref sig .tc := ⟨.hbm, 78, rfl⟩
abbrev main_v52 : Ref sig .tc := ⟨.hbm, 79, rfl⟩
abbrev main_cst_12 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩

abbrev nD : Nat := 1
abbrev τ : Topo := Topo.v7x

variable {F : FTy → Type} [FloatOps F]
-- ==== Rope.lean ====
abbrev S16384 : Shape := ⟨1, ![16384]⟩
abbrev S8 : Shape := ⟨1, ![8]⟩
abbrev S_ : Shape := ⟨0, ![]⟩
abbrev S1x48 : Shape := ⟨2, ![1, 48]⟩
abbrev S1x8 : Shape := ⟨2, ![1, 8]⟩
abbrev S16384x1 : Shape := ⟨2, ![16384, 1]⟩
abbrev S1x128 : Shape := ⟨2, ![1, 128]⟩
abbrev S16384x128 : Shape := ⟨2, ![16384, 128]⟩
abbrev S512x1 : Shape := ⟨2, ![512, 1]⟩
abbrev S512x128 : Shape := ⟨2, ![512, 128]⟩

abbrev nBuf : Space → Nat
  | .hbm => 9
  | .vmem => 7
  | .smem => 0
  | _ => 0

abbrev bufTy : (tb : Table) → Fin (tcTables nBuf tb) → BufTy
  | .hbm, ⟨0, _⟩ => ⟨S16384, .i32⟩
  | .hbm, ⟨1, _⟩ => ⟨S8, .f32⟩
  | .hbm, ⟨2, _⟩ => ⟨S_, .f32⟩
  | .hbm, ⟨3, _⟩ => ⟨S1x48, .f32⟩
  | .hbm, ⟨4, _⟩ => ⟨S1x8, .f32⟩
  | .hbm, ⟨5, _⟩ => ⟨S16384x1, .i32⟩
  | .hbm, ⟨6, _⟩ => ⟨S1x128, .f32⟩
  | .hbm, ⟨7, _⟩ => ⟨S16384x128, .f32⟩
  | .hbm, ⟨8, _⟩ => ⟨S16384x128, .f32⟩
  | .local _ .vmem, ⟨0, _⟩ => ⟨S512x1, .i32⟩
  | .local _ .vmem, ⟨1, _⟩ => ⟨S512x1, .i32⟩
  | .local _ .vmem, ⟨2, _⟩ => ⟨S1x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | _, _ => ⟨S16384, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RopeRefIdeal.lean ====
abbrev S16384 : Shape := ⟨1, ![16384]⟩
abbrev S8 : Shape := ⟨1, ![8]⟩
abbrev S16384x1 : Shape := ⟨2, ![16384, 1]⟩
abbrev S1x8 : Shape := ⟨2, ![1, 8]⟩
abbrev S16384x8 : Shape := ⟨2, ![16384, 8]⟩
abbrev S_ : Shape := ⟨0, ![]⟩
abbrev S16384x48 : Shape := ⟨2, ![16384, 48]⟩
abbrev S16384x128 : Shape := ⟨2, ![16384, 128]⟩

abbrev nBuf : Space → Nat
  | .hbm => 18
  | .vmem => 0
  | .smem => 0
  | _ => 0

abbrev bufTy : (tb : Table) → Fin (tcTables nBuf tb) → BufTy
  | .hbm, ⟨0, _⟩ => ⟨S16384, .i32⟩
  | .hbm, ⟨1, _⟩ => ⟨S8, .f32⟩
  | .hbm, ⟨2, _⟩ => ⟨S16384, .f32⟩
  | .hbm, ⟨3, _⟩ => ⟨S16384x1, .f32⟩
  | .hbm, ⟨4, _⟩ => ⟨S1x8, .f32⟩
  | .hbm, ⟨5, _⟩ => ⟨S16384x8, .f32⟩
  | .hbm, ⟨6, _⟩ => ⟨S16384x8, .f32⟩
  | .hbm, ⟨7, _⟩ => ⟨S16384x8, .f32⟩
  | .hbm, ⟨8, _⟩ => ⟨S16384x8, .f32⟩
  | .hbm, ⟨9, _⟩ => ⟨S16384x8, .f32⟩
  | .hbm, ⟨10, _⟩ => ⟨S_, .f32⟩
  | .hbm, ⟨11, _⟩ => ⟨S16384x48, .f32⟩
  | .hbm, ⟨12, _⟩ => ⟨S_, .f32⟩
  | .hbm, ⟨13, _⟩ => ⟨S16384x48, .f32⟩
  | .hbm, ⟨14, _⟩ => ⟨S16384x128, .f32⟩
  | .hbm, ⟨15, _⟩ => ⟨S16384x8, .f32⟩
  | .hbm, ⟨16, _⟩ => ⟨S16384x8, .f32⟩
  | .hbm, ⟨17, _⟩ => ⟨S16384x128, .f32⟩
  | _, _ => ⟨S16384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]
-- ==== Dn.lean ====
abbrev S16384x7040 : Shape := ⟨2, ![16384, 7040]⟩
abbrev S4x1536 : Shape := ⟨2, ![4, 1536]⟩
abbrev S4 : Shape := ⟨1, ![4]⟩
abbrev S128 : Shape := ⟨1, ![128]⟩
abbrev S_ : Shape := ⟨0, ![]⟩
abbrev S1x128 : Shape := ⟨2, ![1, 128]⟩
abbrev S1 : Shape := ⟨1, ![1]⟩
abbrev S2 : Shape := ⟨1, ![2]⟩
abbrev S16384x512 : Shape := ⟨2, ![16384, 512]⟩
abbrev S64x1536 : Shape := ⟨2, ![64, 1536]⟩
abbrev S64x512 : Shape := ⟨2, ![64, 512]⟩
abbrev S64x128 : Shape := ⟨2, ![64, 128]⟩
abbrev S72x1536 : Shape := ⟨2, ![72, 1536]⟩
abbrev S4x128x128 : Shape := ⟨3, ![4, 128, 128]⟩
abbrev S8x1536 : Shape := ⟨2, ![8, 1536]⟩
abbrev S1x1536 : Shape := ⟨2, ![1, 1536]⟩
abbrev S64x64 : Shape := ⟨2, ![64, 64]⟩
abbrev S128x64 : Shape := ⟨2, ![128, 64]⟩
abbrev S64 : Shape := ⟨1, ![64]⟩
abbrev S64x1 : Shape := ⟨2, ![64, 1]⟩
abbrev S1x64 : Shape := ⟨2, ![1, 64]⟩
abbrev S1x1 : Shape := ⟨2, ![1, 1]⟩
abbrev S64x256 : Shape := ⟨2, ![64, 256]⟩
abbrev S1x128x128 : Shape := ⟨3, ![1, 128, 128]⟩
abbrev S128x128 : Shape := ⟨2, ![128, 128]⟩

abbrev nBuf : Space → Nat
  | .hbm => 23
  | .vmem => 14
  | .smem => 0
  | _ => 0

abbrev bufTy : (tb : Table) → Fin (tcTables nBuf tb) → BufTy
  | .hbm, ⟨0, _⟩ => ⟨S16384x7040, .f32⟩
  | .hbm, ⟨1, _⟩ => ⟨S4x1536, .f32⟩
  | .hbm, ⟨2, _⟩ => ⟨S4, .f32⟩
  | .hbm, ⟨3, _⟩ => ⟨S4, .f32⟩
  | .hbm, ⟨4, _⟩ => ⟨S128, .f32⟩
  | .hbm, ⟨5, _⟩ => ⟨S_, .f32⟩
  | .hbm, ⟨6, _⟩ => ⟨S1x128, .f32⟩
  | .hbm, ⟨7, _⟩ => ⟨S_, .i32⟩
  | .hbm, ⟨8, _⟩ => ⟨S1, .i32⟩
  | .hbm, ⟨9, _⟩ => ⟨S_, .i32⟩
  | .hbm, ⟨10, _⟩ => ⟨S1, .i32⟩
  | .hbm, ⟨11, _⟩ => ⟨S2, .i32⟩
  | .hbm, ⟨12, _⟩ => ⟨S1x128, .f32⟩
  | .hbm, ⟨13, _⟩ => ⟨S_, .f32⟩
  | .hbm, ⟨14, _⟩ => ⟨S1x128, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S2, .i32⟩
  | .hbm, ⟨20, _⟩ => ⟨S1x128, .f32⟩
  | .hbm, ⟨21, _⟩ => ⟨S1x128, .f32⟩
  | .hbm, ⟨22, _⟩ => ⟨S16384x512, .f32⟩
  | .local _ .vmem, ⟨0, _⟩ => ⟨S64x1536, .f32⟩
  | .local _ .vmem, ⟨1, _⟩ => ⟨S64x1536, .f32⟩
  | .local _ .vmem, ⟨2, _⟩ => ⟨S64x512, .f32⟩
  | .local _ .vmem, ⟨3, _⟩ => ⟨S64x512, .f32⟩
  | .local _ .vmem, ⟨4, _⟩ => ⟨S64x128, .f32⟩
  | .local _ .vmem, ⟨5, _⟩ => ⟨S64x128, .f32⟩
  | .local _ .vmem, ⟨6, _⟩ => ⟨S4x1536, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S64x512, .f32⟩
  | .local _ .vmem, ⟨11, _⟩ => ⟨S64x512, .f32⟩
  | .local _ .vmem, ⟨12, _⟩ => ⟨S72x1536, .f32⟩
  | .local _ .vmem, ⟨13, _⟩ => ⟨S4x128x128, .f32⟩
  | _, _ => ⟨S16384x7040, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_c_2 : Ref sig .tc := ⟨.hbm, 15, rfl⟩
abbrev main_v6 : Ref sig .tc := ⟨.hbm, 16, rfl⟩
abbrev main_c_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c2_i32 : BitVec 32 := 2#32
  let c0_i32 : BitVec 32 := 0#32
  ![v1.toNat, c2_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c12_i32 : BitVec 32 := 12#32
  let c0_i32 : BitVec 32 := 0#32
  ![v1.toNat, c12_i32.toNat]

def cc0_transform_2 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c54_i32 : BitVec 32 := 54#32
  let c0_i32 : BitVec 32 := 0#32
  ![v1.toNat, c54_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S4x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== DnIdeal.lean ====
variable {F : FTy → Type} [FloatOps F] [Named F]
def κ : String → Option EReal := fun
  | "mask" => some ⊥
  | _ => none
-- ==== Proof.SwaSoftmax.lean ====
/-
# The softmax with a sink, divided once or term by term

A row of scores, some of them minus infinity, and a sink. The kernel sums the exponentials times the values and divides
the sum; the reference divides every exponential by the denominator and sums afterwards. Scores below plus infinity and
a finite sink make the denominator a positive number, and the two agree. A value under a score of minus infinity does
not count, so the two sides may hold different values there.
-/
module

public import Idealize.ShloMosaic.Lib.Pointwise

@[expose] public section

noncomputable section

namespace Cert.SwaSoftmax

open Idealize.ShloMosaic

/-- A real factor that is not negative goes into a sum of any extended reals. -/
theorem sum_mul_real {n : ℕ} (f : Fin n → EReal) (d : ℝ) (hd : 0 ≤ d) :
    (∑ j, f j) * (d : EReal) = ∑ j, f j * (d : EReal) := by
  classical
  induction (Finset.univ : Finset (Fin n)) using Finset.induction_on with
  | empty => simp
  | insert a S ha ih =>
    rw [Finset.sum_insert ha, Finset.sum_insert ha, ← ih]
    exact EReal.right_distrib_of_nonneg_of_ne_top (by exact_mod_cast hd) (EReal.coe_ne_top d) _ _

/-- A sum of reals is the real of the sum. -/
theorem sum_real {n : ℕ} (p : Fin n → ℝ) : (∑ j, (p j : EReal)) = ((∑ j, p j : ℝ) : EReal) := by
  classical
  induction (Finset.univ : Finset (Fin n)) using Finset.induction_on with
  | empty => simp
  | insert a S ha ih => rw [Finset.sum_insert ha, Finset.sum_insert ha, ih, EReal.coe_add]

/-- The greatest of a row and one further entry. -/
theorem max_row {n : ℕ} (L : Fin n → EReal) (s : EReal) (L' : Fin (n + 1) → EReal) (h1 : ∀ j, L' (Fin.castSucc j) = L j)
    (h2 : L' (Fin.last n) = s) :
    max ⊥ (Finset.univ.fold max ⊥ L') = max (Finset.univ.fold max ⊥ L) s := by
  have e : ∀ {k : ℕ} (f : Fin k → EReal), Finset.univ.fold max ⊥ f = Finset.univ.sup f := fun f => rfl
  rw [e, e]
  refine le_antisymm (max_le bot_le (Finset.sup_le fun j _ => ?_)) (max_le (Finset.sup_le fun j _ => ?_) ?_)
  · refine Fin.lastCases ?_ (fun i => ?_) j
    · rw [h2]; exact le_max_right _ _
    · rw [h1]; exact le_max_of_le_left (Finset.le_sup (f := L) (Finset.mem_univ i))
  · rw [← h1]; exact le_max_of_le_right (Finset.le_sup (f := L') (Finset.mem_univ _))
  · rw [← h2]; exact le_max_of_le_right (Finset.le_sup (f := L') (Finset.mem_univ _))

/-- The greatest of a row below plus infinity and a finite number is finite. -/
theorem max_real {n : ℕ} (L : Fin n → EReal) (s : EReal) (hL : ∀ j, L j ≠ ⊤) (hs : s ≠ ⊤) (hs' : s ≠ ⊥) :
    ∃ r : ℝ, max (Finset.univ.fold max ⊥ L) s = (r : EReal) := by
  have e : Finset.univ.fold max ⊥ L = Finset.univ.sup L := rfl
  have top : max (Finset.univ.fold max ⊥ L) s ≠ ⊤ := by
    rw [e]
    refine ne_of_lt (max_lt ((Finset.sup_lt_iff (by exact bot_lt_top)).2 fun j _ => lt_top_iff_ne_top.2 (hL j)) (lt_top_iff_ne_top.2 hs))
  have bot : max (Finset.univ.fold max ⊥ L) s ≠ ⊥ :=
    ne_of_gt (lt_of_lt_of_le (bot_lt_iff_ne_bot.2 hs') (le_max_right _ _))
  exact ⟨_, (EReal.coe_toReal top bot).symm⟩

/-- The exponential of a score less a finite number is a number that is not negative. -/
theorem exp_real (x : EReal) (r : ℝ) (hx : x ≠ ⊤) : ∃ p : ℝ, 0 ≤ p ∧ Ideal.exp (x - (r : EReal)) = (p : EReal) ∧ (x = ⊥ → p = 0) := by
  induction x with
  | bot => exact ⟨0, le_refl _, by rw [EReal.bot_sub, Ideal.exp_bot, EReal.coe_zero], fun _ => rfl⟩
  | top => exact absurd rfl hx
  | coe a =>
    refine ⟨Real.exp (a - r), (Real.exp_pos _).le, ?_, fun h => absurd h (EReal.coe_ne_bot a)⟩
    rw [← EReal.coe_sub, Ideal.exp_coe]

/-- Dividing the sum once is dividing every term. -/
theorem softmax_sink {n : ℕ} (L v w : Fin n → EReal) (s : EReal) (L' : Fin (n + 1) → EReal)
    (h1 : ∀ j, L' (Fin.castSucc j) = L j) (h2 : L' (Fin.last n) = s)
    (hL : ∀ j, L j ≠ ⊤) (hs : s ≠ ⊤) (hs' : s ≠ ⊥) (hv : ∀ j, L j ≠ ⊥ → v j = w j) :
    Ideal.div (∑ j, Ideal.exp (L j - max (Finset.univ.fold max ⊥ L) s) * v j)
        ((∑ j, Ideal.exp (L j - max (Finset.univ.fold max ⊥ L) s)) + Ideal.exp (s - max (Finset.univ.fold max ⊥ L) s))
      = ∑ j, w j * Ideal.div (Ideal.exp (L' (Fin.castSucc j) - max ⊥ (Finset.univ.fold max ⊥ L')))
          (∑ k, Ideal.exp (L' k - max ⊥ (Finset.univ.fold max ⊥ L'))) := by
  rw [max_row L s L' h1 h2, Fin.sum_univ_castSucc]
  simp only [h1, h2]
  obtain ⟨r, hr⟩ := max_real L s hL hs hs'
  rw [hr]
  choose p p0 pe pz using fun j => exp_real (L j) r (hL j)
  simp only [pe]
  have e0 : Ideal.exp (s - (r : EReal)) = ((Real.exp (s.toReal - r) : ℝ) : EReal) := by
    rw [← EReal.coe_toReal hs hs', ← EReal.coe_sub, Ideal.exp_coe, EReal.toReal_coe]
  rw [e0, sum_real, ← EReal.coe_add]
  have d0 : 0 < (∑ j, p j) + Real.exp (s.toReal - r) :=
    add_pos_of_nonneg_of_pos (Finset.sum_nonneg fun j _ => p0 j) (Real.exp_pos _)
  generalize (∑ j, p j) + Real.exp (s.toReal - r) = d at d0
  simp only [Ideal.div_coe d0.ne']
  rw [sum_mul_real _ _ (by positivity)]
  refine Finset.sum_congr rfl fun j _ => ?_
  by_cases hj : L j = ⊥
  · rw [pz j hj, EReal.coe_zero]; simp only [zero_mul, mul_zero]
  · rw [hv j hj, mul_comm (p j : EReal) (w j), mul_assoc]

end Cert.SwaSoftmax
-- ==== Proof.SwaHead.lean ====
/-
# One row of a head, and finite extended reals
-/
module

public import proofs.«01_k».proof.Proof.SwaSoftmax

@[expose] public section

set_option maxRecDepth 16384

noncomputable section

namespace Cert.SwaSoftmax

open Idealize.ShloMosaic

/-- One row of a head: the values weighted by the exponentials of the scores, over the sum of those and the sink's. -/
def headRow {n : ℕ} (L : Fin n → EReal) (s : EReal) (v : Fin n → EReal) : EReal :=
  Ideal.div (∑ j, Ideal.exp (L j - max (Finset.univ.fold max ⊥ L) s) * v j)
    ((∑ j, Ideal.exp (L j - max (Finset.univ.fold max ⊥ L) s)) + Ideal.exp (s - max (Finset.univ.fold max ⊥ L) s))

/-- A real number. -/
def Finite (x : EReal) : Prop := ∃ r : ℝ, x = (r : EReal)

theorem Finite.add {x y : EReal} (hx : Finite x) (hy : Finite y) : Finite (x + y) := by
  obtain ⟨a, rfl⟩ := hx
  obtain ⟨b, rfl⟩ := hy
  exact ⟨a + b, (EReal.coe_add a b).symm⟩

theorem Finite.sub {x y : EReal} (hx : Finite x) (hy : Finite y) : Finite (x - y) := by
  obtain ⟨a, rfl⟩ := hx
  obtain ⟨b, rfl⟩ := hy
  exact ⟨a - b, (EReal.coe_sub a b).symm⟩

theorem Finite.mul {x y : EReal} (hx : Finite x) (hy : Finite y) : Finite (x * y) := by
  obtain ⟨a, rfl⟩ := hx
  obtain ⟨b, rfl⟩ := hy
  exact ⟨a * b, (EReal.coe_mul a b).symm⟩

theorem Finite.sum {n : ℕ} {f : Fin n → EReal} (h : ∀ j, Finite (f j)) : Finite (∑ j, f j) := by
  choose r hr using h
  exact ⟨∑ j, r j, by simp only [hr]; exact sum_real r⟩

theorem Finite.ne_top {x : EReal} (h : Finite x) : x ≠ ⊤ := by
  obtain ⟨a, rfl⟩ := h
  exact EReal.coe_ne_top a

theorem Finite.ne_bot {x : EReal} (h : Finite x) : x ≠ ⊥ := by
  obtain ⟨a, rfl⟩ := h
  exact EReal.coe_ne_bot a

/-- An absolute value below plus infinity is a real number's. -/
theorem finite_of_abs {x : EReal} (h : max x (-x) < ⊤) : Finite x := by
  induction x with
  | bot => simp at h
  | top => simp at h
  | coe r => exact ⟨r, rfl⟩

/-- The scale of the scores. -/
theorem finite_scale : Finite (Ideal.ofBits FTy.f32 0x3E000000#32) := by
  refine ⟨8388608 * (2 ^ 26)⁻¹, ?_⟩
  rw [EReal.coe_mul]
  simp [Ideal.ofBits, Ideal.ieee]

theorem infinity : Ideal.ofBits FTy.f32 0x7F800000#32 = ⊤ := by simp [Ideal.ofBits, Ideal.ieee]

end Cert.SwaSoftmax
-- ==== Proof.SwaPair.lean ====
/-
# The four stores of the banded attention are one computation

Each store holds two heads side by side. The four differ in the head pair, the key group and the sinks alone.
-/
module

public import proofs.«01_k».proof.Proof.Gen.SwaIdeal.Skeleton
public import Idealize.ShloMosaic.Lib.Pointwise

@[expose] public section

set_option maxRecDepth 16384

noncomputable section

namespace Cert.SwaIdeal.RefValue

open Cert.SwaIdeal Cert.SwaIdeal.Gen Idealize.ShloMosaic Idealize.ShloMosaic.TcCoe Idealize.SL.Sem

/-- The lanes of a vector of 128 rows. -/
abbrev lanes : IVec S128x128 32 := iota .tc S128x128 32 [1] iota_S128x128_d1_w32

/-- The rows of the two stacked heads. -/
abbrev stack : IVec S256x1 32 := iota .tc S256x1 32 [0] iota_S256x1_d0_w32

/-- The first pair's scores. -/
theorem logits0 (n : BitVec 32) (C S : Vec Ideal S128x128 .f32) (k : FVec Ideal S256x128 .f32) (x : Vec Ideal S128x128 .f32) :
    k0_pay19 n lanes k0_pay2 C S k k0_pay15 k0_pay16 x = k0_pay25 k0_pay2 C S k (k0_pay17 n k0_pay15 k0_pay16) (k0_pay18 lanes) x := rfl

/-- The first pair's store. -/
theorem store0 (n : BitVec 32) (C S : Vec Ideal S128x128 .f32) (k v : FVec Ideal S256x128 .f32) (x : Vec Ideal S128x128 .f32) (a b : Elt Ideal .f32) :
    k0_pay24 v (k0_pay18 lanes) (k0_pay22 n lanes k0_pay2 C S k k0_pay15 k0_pay16 x a b) (k0_pay23 n lanes k0_pay2 C S k k0_pay15 k0_pay16 x a b)
      = k0_pay1 v (k0_pay18 lanes) (k0_pay25 k0_pay2 C S k (k0_pay17 n k0_pay15 k0_pay16) (k0_pay18 lanes) x) (k0_pay37 stack a b) := rfl

/-- The second pair's store. -/
theorem store1 (C S : Vec Ideal S128x128 .f32) (k v : FVec Ideal S256x128 .f32) (ok : IVec S256x256 1) (x : Vec Ideal S128x128 .f32) (a b : Elt Ideal .f32) :
    k0_pay30 v (k0_pay18 lanes) (k0_pay26 stack a b) (k0_pay27 k0_pay2 C S k ok stack (k0_pay18 lanes) x a b)
        (k0_pay28 k0_pay2 C S k ok stack (k0_pay18 lanes) x a b) (k0_pay29 k0_pay2 C S k ok stack (k0_pay18 lanes) x a b)
      = k0_pay1 v (k0_pay18 lanes) (k0_pay25 k0_pay2 C S k ok (k0_pay18 lanes) x) (k0_pay37 stack a b) := rfl

/-- The third pair's store. -/
theorem store2 (C S : Vec Ideal S128x128 .f32) (k v : FVec Ideal S256x128 .f32) (ok : IVec S256x256 1) (x : Vec Ideal S128x128 .f32) (a b : Elt Ideal .f32) :
    k0_pay35 v (k0_pay18 lanes) (k0_pay31 k0_pay2 C S k ok (k0_pay18 lanes) x) (k0_pay32 stack a b)
        (k0_pay33 k0_pay2 C S k ok stack (k0_pay18 lanes) x a b) (k0_pay34 k0_pay2 C S k ok stack (k0_pay18 lanes) x a b)
      = k0_pay1 v (k0_pay18 lanes) (k0_pay25 k0_pay2 C S k ok (k0_pay18 lanes) x) (k0_pay37 stack a b) := rfl

/-- The fourth pair's scores. -/
theorem logits3 (C S : Vec Ideal S128x128 .f32) (k : FVec Ideal S256x128 .f32) (ok : IVec S256x256 1) (x : Vec Ideal S128x128 .f32) :
    k0_pay36 k0_pay2 C S k ok (k0_pay18 lanes) x = k0_pay25 k0_pay2 C S k ok (k0_pay18 lanes) x := rfl

/-- The turned keys of the block before and of the block itself, one over the other. -/
theorem turned_keys (C S x Cp Sp xp : Vec Ideal S128x128 .f32) :
    k0_pay6 (k0_pay3 C S x) Sp (k0_pay4 xp) (k0_pay5 xp Cp) = k0_pay7 (k0_pay3 Cp Sp xp) (k0_pay3 C S x) := rfl

end Cert.SwaIdeal.RefValue
-- ==== Proof.SwaRef.lean ====
/-
# The banded attention of the reference

The reference's term in named steps.
-/
module

public import proofs.«01_k».proof.Proof.Gen.SwaRefIdeal.Run
public import Idealize.ShloMosaic.Lib.Pointwise

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- The queries, by batch, position, head and coordinate. -/
def xq (P : FVec Ideal S16384x7040 .f32) : FVec Ideal S2x8192x8x64 .f32 :=
  shapeCast _ (extractStridedSlice S16384x512 ![0, 5632] P slices_S16384x7040_S16384x512_0_5632) shapeCasts_S16384x512_S2x8192x8x64

/-- The keys. -/
def xk (P : FVec Ideal S16384x7040 .f32) : FVec Ideal S2x8192x2x64 .f32 :=
  shapeCast _ (extractStridedSlice S16384x128 ![0, 6656] P slices_S16384x7040_S16384x128_0_6656) shapeCasts_S16384x128_S2x8192x2x64

/-- The cosines, by batch and position. -/
def cosT (C : FVec Ideal S16384x128 .f32) : FVec Ideal S2x8192x1x8 .f32 :=
  shapeCast _ (extractStridedSlice S16384x8 ![0, 0] C slices_S16384x128_S16384x8_0_0) shapeCasts_S16384x8_S2x8192x1x8

/-- The sines. -/
def sinT (S : FVec Ideal S16384x128 .f32) : FVec Ideal S2x8192x1x8 .f32 :=
  shapeCast _ (extractStridedSlice S16384x8 ![0, 8] S slices_S16384x128_S16384x8_0_8) shapeCasts_S16384x8_S2x8192x1x8

/-- The keys, turned by their positions. -/
def ropeK (P : FVec Ideal S16384x7040 .f32) (C : FVec Ideal S16384x128 .f32) (S : FVec Ideal S16384x128 .f32) : FVec Ideal S2x8192x2x64 .f32 :=
  (concatenate S2x8192x2x64 3 [⟨S2x8192x2x8, ((subf (mulf (extractStridedSlice S2x8192x2x8 ![0, 0, 0, 0] (xk P) slices_S2x8192x2x64_S2x8192x2x8_0_0_0_0) (broadcastInDim S2x8192x2x8 ![0, 1, 2, 3] bcast_S2x8192x1x8_S2x8192x2x8_0_1_2_3 (cosT C))) (mulf (extractStridedSlice S2x8192x2x8 ![0, 0, 0, 8] (xk P) slices_S2x8192x2x64_S2x8192x2x8_0_0_0_8) (broadcastInDim S2x8192x2x8 ![0, 1, 2, 3] bcast_S2x8192x1x8_S2x8192x2x8_0_1_2_3 (sinT S)))) : (⟨S2x8192x2x8, .f32⟩ : BufTy).Contents (Elt Ideal))⟩, ⟨S2x8192x2x8, ((addf (mulf (extractStridedSlice S2x8192x2x8 ![0, 0, 0, 8] (xk P) slices_S2x8192x2x64_S2x8192x2x8_0_0_0_8) (broadcastInDim S2x8192x2x8 ![0, 1, 2, 3] bcast_S2x8192x1x8_S2x8192x2x8_0_1_2_3 (cosT C))) (mulf (extractStridedSlice S2x8192x2x8 ![0, 0, 0, 0] (xk P) slices_S2x8192x2x64_S2x8192x2x8_0_0_0_0) (broadcastInDim S2x8192x2x8 ![0, 1, 2, 3] bcast_S2x8192x1x8_S2x8192x2x8_0_1_2_3 (sinT S)))) : (⟨S2x8192x2x8, .f32⟩ : BufTy).Contents (Elt Ideal))⟩, ⟨S2x8192x2x48, ((extractStridedSlice S2x8192x2x48 ![0, 0, 0, 16] (xk P) slices_S2x8192x2x64_S2x8192x2x48_0_0_0_16) : (⟨S2x8192x2x48, .f32⟩ : BufTy).Contents (Elt Ideal))⟩] concatenates_S2x8192x2x8_S2x8192x2x8_S2x8192x2x48_S2x8192x2x64_d3 : (⟨S2x8192x2x64, .f32⟩ : BufTy).Contents (Elt Ideal))

/-- The queries, turned by their positions. -/
def ropeQ (P : FVec Ideal S16384x7040 .f32) (C : FVec Ideal S16384x128 .f32) (S : FVec Ideal S16384x128 .f32) : FVec Ideal S2x8192x8x64 .f32 :=
  (concatenate S2x8192x8x64 3 [⟨S2x8192x8x8, ((subf (mulf (extractStridedSlice S2x8192x8x8 ![0, 0, 0, 0] (xq P) slices_S2x8192x8x64_S2x8192x8x8_0_0_0_0) (broadcastInDim S2x8192x8x8 ![0, 1, 2, 3] bcast_S2x8192x1x8_S2x8192x8x8_0_1_2_3 (cosT C))) (mulf (extractStridedSlice S2x8192x8x8 ![0, 0, 0, 8] (xq P) slices_S2x8192x8x64_S2x8192x8x8_0_0_0_8) (broadcastInDim S2x8192x8x8 ![0, 1, 2, 3] bcast_S2x8192x1x8_S2x8192x8x8_0_1_2_3 (sinT S)))) : (⟨S2x8192x8x8, .f32⟩ : BufTy).Contents (Elt Ideal))⟩, ⟨S2x8192x8x8, ((addf (mulf (extractStridedSlice S2x8192x8x8 ![0, 0, 0, 8] (xq P) slices_S2x8192x8x64_S2x8192x8x8_0_0_0_8) (broadcastInDim S2x8192x8x8 ![0, 1, 2, 3] bcast_S2x8192x1x8_S2x8192x8x8_0_1_2_3 (cosT C))) (mulf (extractStridedSlice S2x8192x8x8 ![0, 0, 0, 0] (xq P) slices_S2x8192x8x64_S2x8192x8x8_0_0_0_0) (broadcastInDim S2x8192x8x8 ![0, 1, 2, 3] bcast_S2x8192x1x8_S2x8192x8x8_0_1_2_3 (sinT S)))) : (⟨S2x8192x8x8, .f32⟩ : BufTy).Contents (Elt Ideal))⟩, ⟨S2x8192x8x48, ((extractStridedSlice S2x8192x8x48 ![0, 0, 0, 16] (xq P) slices_S2x8192x8x64_S2x8192x8x48_0_0_0_16) : (⟨S2x8192x8x48, .f32⟩ : BufTy).Contents (Elt Ideal))⟩] concatenates_S2x8192x8x8_S2x8192x8x8_S2x8192x8x48_S2x8192x8x64_d3 : (⟨S2x8192x8x64, .f32⟩ : BufTy).Contents (Elt Ideal))

/-- The keys that a block of queries can see: the block before and its own. -/
def keys (P : FVec Ideal S16384x7040 .f32) (C : FVec Ideal S16384x128 .f32) (S : FVec Ideal S16384x128 .f32) : FVec Ideal S2x64x256x2x64 .f32 :=
  concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (shapeCast _ (ropeK P C S) shapeCasts_S2x8192x2x64_S2x64x128x2x64) slices_S2x64x128x2x64_S2x63x128x2x64_0_0_0_0_0)⟩] concatenates_S2x1x128x2x64_S2x63x128x2x64_S2x64x128x2x64_d1)⟩, ⟨S2x64x128x2x64, (shapeCast _ (ropeK P C S) shapeCasts_S2x8192x2x64_S2x64x128x2x64)⟩] concatenates_S2x64x128x2x64_S2x64x128x2x64_S2x64x256x2x64_d2

/-- The values that a block of queries can see. -/
def values (P : FVec Ideal S16384x7040 .f32) : FVec Ideal S2x64x256x2x64 .f32 :=
  concatenate S2x64x256x2x64 2 [⟨S2x64x128x2x64, (concatenate S2x64x128x2x64 1 [⟨S2x1x128x2x64, (broadcastInDim S2x1x128x2x64 ![] bcast_S_S2x1x128x2x64 (constant S_ .f32 0x00000000#32))⟩, ⟨S2x63x128x2x64, (extractStridedSlice S2x63x128x2x64 ![0, 0, 0, 0, 0] (shapeCast _ (shapeCast _ (extractStridedSlice S16384x128 ![0, 6784] P slices_S16384x7040_S16384x128_0_6784) shapeCasts_S16384x128_S2x8192x2x64) shapeCasts_S2x8192x2x64_S2x64x128x2x64) slices_S2x64x128x2x64_S2x63x128x2x64_0_0_0_0_0)⟩] concatenates_S2x1x128x2x64_S2x63x128x2x64_S2x64x128x2x64_d1)⟩, ⟨S2x64x128x2x64, (shapeCast _ (shapeCast _ (extractStridedSlice S16384x128 ![0, 6784] P slices_S16384x7040_S16384x128_0_6784) shapeCasts_S16384x128_S2x8192x2x64) shapeCasts_S2x8192x2x64_S2x64x128x2x64)⟩] concatenates_S2x64x128x2x64_S2x64x128x2x64_S2x64x256x2x64_d2

/-- Which keys a query sees. -/
def inBand  : IVec S2x64x2x4x128x256 1 :=
  broadcastInDim S2x64x2x4x128x256 ![0, 1, 2, 3, 4, 5] bcast_S1x64x1x1x128x256_S2x64x2x4x128x256_0_1_2_3_4_5 (broadcastInDim S1x64x1x1x128x256 ![1, 4, 5] bcast_S64x128x256_S1x64x1x1x128x256_1_4_5 (andi (broadcastInDim S64x128x256 ![0, 1, 2] bcast_S1x128x256_S64x128x256_0_1_2 (broadcastInDim S1x128x256 ![1, 2] bcast_S128x256_S1x128x256_1_2 (andi (cmpi .sge (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 0#32))) (cmpi .slt (subi (broadcastInDim S128x256 ![0, 1] bcast_S128x1_S128x256_0_1 (addi (broadcastInDim S128x1 ![0] bcast_S128_S128x1_0 (iotaInDim S128 32 0)) (broadcastInDim S128x1 ![] bcast_S_S128x1 (constantI S_ 32 128#32)))) (broadcastInDim S128x256 ![0, 1] bcast_S1x256_S128x256_0_1 (broadcastInDim S1x256 ![1] bcast_S256_S1x256_1 (iotaInDim S256 32 0)))) (broadcastInDim S128x256 ![] bcast_S_S128x256 (constantI S_ 32 128#32)))))) (broadcastInDim S64x128x256 ![0, 1, 2] bcast_S64x1x256_S64x128x256_0_1_2 (ori (broadcastInDim S64x1x256 ![0, 1, 2] bcast_S64x1x1_S64x1x256_0_1_2 (broadcastInDim S64x1x1 ![0] bcast_S64_S64x1x1_0 (cmpi .sgt (iotaInDim S64 32 0) (broadcastInDim S64 ![] bcast_S_S64 (constantI S_ 32 0#32))))) (broadcastInDim S64x1x256 ![0, 1, 2] bcast_S1x1x256_S64x1x256_0_1_2 (broadcastInDim S1x1x256 ![1, 2] bcast_S1x256_S1x1x256_1_2 (cmpi .sge (broadcastInDim S1x256 ![1] bcast_S256_S1x256_1 (iotaInDim S256 32 0)) (broadcastInDim S1x256 ![] bcast_S_S1x256 (constantI S_ 32 128#32)))))))))

/-- The scores, minus infinity where the query does not see the key. -/
def scores (P : FVec Ideal S16384x7040 .f32) (C : FVec Ideal S16384x128 .f32) (S : FVec Ideal S16384x128 .f32) : FVec Ideal S2x64x2x4x128x256 .f32 :=
  select inBand (transpose S2x64x2x4x128x256 [0, 1, 2, 5, 4, 3] (Host.dotGeneral dot_S2x64x256x2x64_S2x64x128x2x4x64_S2x64x2x256x128x4_4_5_2_24_013_013 none (keys P C S) (shapeCast _ (mulf (ropeQ P C S) (broadcastInDim S2x8192x8x64 ![] bcast_S_S2x8192x8x64 (constant S_ .f32 0x3E000000#32))) shapeCasts_S2x8192x8x64_S2x64x128x2x4x64)) transposes_S2x64x2x256x128x4_S2x64x2x4x128x256_0_1_2_5_4_3) (broadcastInDim S2x64x2x4x128x256 ![] bcast_S_S2x64x2x4x128x256 (id (constant S_ .f32 0xFF800000#32)))

/-- The scores with the sink behind them. -/
def withSink (P : FVec Ideal S16384x7040 .f32) (C : FVec Ideal S16384x128 .f32) (S : FVec Ideal S16384x128 .f32) (s : FVec Ideal S8 .f32) : FVec Ideal S2x64x2x4x128x257 .f32 :=
  concatenate S2x64x2x4x128x257 5 [⟨S2x64x2x4x128x256, (scores P C S)⟩, ⟨S2x64x2x4x128x1, (broadcastInDim S2x64x2x4x128x1 ![0, 1, 2, 3, 4, 5] bcast_S1x1x2x4x1x1_S2x64x2x4x128x1_0_1_2_3_4_5 (shapeCast _ s shapeCasts_S8_S1x1x2x4x1x1))⟩] concatenates_S2x64x2x4x128x256_S2x64x2x4x128x1_S2x64x2x4x128x257_d5

/-- The greatest of each row, once. -/
def rowMax (P : FVec Ideal S16384x7040 .f32) (C : FVec Ideal S16384x128 .f32) (S : FVec Ideal S16384x128 .f32) (s : FVec Ideal S8 .f32) : FVec Ideal S2x64x2x4x128 .f32 :=
  Host.reduce FloatOps.maximumf (withSink P C S s) (constant S_ .f32 0xFF800000#32) reducesTo_S2x64x2x4x128x257_S2x64x2x4x128_d5 h_S_

/-- The greatest of each row. -/
def greatest (P : FVec Ideal S16384x7040 .f32) (C : FVec Ideal S16384x128 .f32) (S : FVec Ideal S16384x128 .f32) (s : FVec Ideal S8 .f32) : FVec Ideal S2x64x2x4x128x257 .f32 :=
  broadcastInDim S2x64x2x4x128x257 ![0, 1, 2, 3, 4, 5] bcast_S2x64x2x4x128x1_S2x64x2x4x128x257_0_1_2_3_4_5 (broadcastInDim S2x64x2x4x128x1 ![0, 1, 2, 3, 4] bcast_S2x64x2x4x128_S2x64x2x4x128x1_0_1_2_3_4 (maximumf (broadcastInDim S2x64x2x4x128 ![] bcast_S_S2x64x2x4x128 (constant S_ .f32 0xFF800000#32)) (rowMax P C S s)))

/-- The exponentials. -/
def exps (P : FVec Ideal S16384x7040 .f32) (C : FVec Ideal S16384x128 .f32) (S : FVec Ideal S16384x128 .f32) (s : FVec Ideal S8 .f32) : FVec Ideal S2x64x2x4x128x257 .f32 :=
  Host.exp (subf (withSink P C S s) (greatest P C S s))

/-- The sum of each row of exponentials. -/
def rowSum (P : FVec Ideal S16384x7040 .f32) (C : FVec Ideal S16384x128 .f32) (S : FVec Ideal S16384x128 .f32) (s : FVec Ideal S8 .f32) : FVec Ideal S2x64x2x4x128 .f32 :=
  Host.reduceAdd (exps P C S s) (constant S_ .f32 0x00000000#32) reducesTo_S2x64x2x4x128x257_S2x64x2x4x128_d5 h_S_

/-- The reference's result as a function of its arguments. -/
def REF (P : FVec Ideal S16384x7040 .f32) (C : FVec Ideal S16384x128 .f32) (S : FVec Ideal S16384x128 .f32) (s : FVec Ideal S8 .f32) : FVec Ideal S16384x512 .f32 :=
  shapeCast _ (transpose S2x64x128x2x4x64 [0, 1, 5, 2, 4, 3] (Host.dotGeneral dot_S2x64x256x2x64_S2x64x2x4x128x256_S2x64x2x64x4x128_2_5_4_34_013_012 none (values P) (extractStridedSlice S2x64x2x4x128x256 ![0, 0, 0, 0, 0, 0] (Host.divf (exps P C S s) (broadcastInDim S2x64x2x4x128x257 ![0, 1, 2, 3, 4, 5] bcast_S2x64x2x4x128x1_S2x64x2x4x128x257_0_1_2_3_4_5 (broadcastInDim S2x64x2x4x128x1 ![0, 1, 2, 3, 4] bcast_S2x64x2x4x128_S2x64x2x4x128x1_0_1_2_3_4 (rowSum P C S s)))) slices_S2x64x2x4x128x257_S2x64x2x4x128x256_0_0_0_0_0_0)) transposes_S2x64x2x64x4x128_S2x64x128x2x4x64_0_1_5_2_4_3) shapeCasts_S2x64x128x2x4x64_S16384x512

end Cert.SwaRefIdeal.RefValue
-- ==== Proof.SwaTurn.lean ====
/-
# The turn of a head's coordinates
-/
module

public import proofs.«01_k».proof.Proof.SwaRef
public import Idealize.ShloMosaic.Lib.Pointwise

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- The row of the arrays for a batch, a block of 128 positions and a position of it. -/
def tok (b : Fin 2) (i : Fin 64) (r : Fin 128) : Fin 16384 :=
  ⟨b.val * 8192 + (i.val * 128 + r.val), by omega⟩

/-- The turn of one head's coordinates: the first eight and the next eight in pairs, the others as they are. -/
def turn (x : Fin 64 → EReal) (c s : Fin 8 → EReal) (d : Fin 64) : EReal :=
  if h : d.val < 8 then x d * c ⟨d.val, h⟩ - x ⟨8 + d.val, by omega⟩ * s ⟨d.val, h⟩
  else if h' : d.val - 8 < 8 then x d * c ⟨d.val - 8, by omega⟩ + x ⟨d.val - 8, by omega⟩ * s ⟨d.val - 8, by omega⟩
  else x d

/-- A turned key's coordinate. -/
def keyAt (P : FVec Ideal S16384x7040 .f32) (C S : FVec Ideal S16384x128 .f32) (t : Fin 16384) (g : Fin 2) (d : Fin 64) : EReal :=
  turn (fun e => P (ix2 t ⟨6656 + (g.val * 64 + e.val), by omega⟩)) (fun e => C (ix2 t ⟨e.val, by omega⟩)) (fun e => S (ix2 t ⟨8 + e.val, by omega⟩)) d

/-- A turned query's coordinate. -/
def queryAt (P : FVec Ideal S16384x7040 .f32) (C S : FVec Ideal S16384x128 .f32) (t : Fin 16384) (h : Fin 8) (d : Fin 64) : EReal :=
  turn (fun e => P (ix2 t ⟨5632 + (h.val * 64 + e.val), by omega⟩)) (fun e => C (ix2 t ⟨e.val, by omega⟩)) (fun e => S (ix2 t ⟨8 + e.val, by omega⟩)) d

end Cert.SwaRefIdeal.RefValue
-- ==== Proof.SwaBand.lean ====
/-
# The comparisons of positions

What the comparisons of the 32-bit positions say of the positions.
-/
module

public import proofs.«01_k».proof.Proof.Gen.SwaRefIdeal.Run
public import Idealize.ShloMosaic.Lib.Pointwise

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- The difference of two positions as a signed number. -/
theorem gap (r : Fin 128) (j : Fin 256) :
    (IntOp.subi (IntOp.addi (BitVec.ofNat 32 r.val) 128#32) (BitVec.ofNat 32 j.val)).toInt = (r.val : Int) + 128 - j.val := by
  have hr := r.isLt
  have hj := j.isLt
  have e : (IntOp.subi (IntOp.addi (BitVec.ofNat 32 r.val) 128#32) (BitVec.ofNat 32 j.val)).toNat = (r.val + 128 + (4294967296 - j.val)) % 4294967296 := by
    unfold IntOp.subi IntOp.addi
    simp only [BitVec.toNat_sub, BitVec.toNat_add, BitVec.toNat_ofNat]
    omega
  rw [BitVec.toInt_eq_toNat_cond, e]
  split <;> omega

/-- The two comparisons of positions. -/
theorem near (r : Fin 128) (j : Fin 256) :
    IntOp.andi
        (IntOp.cmpi CmpIPredicate.sge (IntOp.subi (IntOp.addi (BitVec.ofNat 32 r.val) 128#32) (BitVec.ofNat 32 j.val)) 0#32)
        (IntOp.cmpi CmpIPredicate.slt (IntOp.subi (IntOp.addi (BitVec.ofNat 32 r.val) 128#32) (BitVec.ofNat 32 j.val)) 128#32)
      = if r.val < j.val ∧ j.val ≤ r.val + 128 then 1#1 else 0#1 := by
  have e := gap r j
  generalize IntOp.subi (IntOp.addi (BitVec.ofNat 32 r.val) 128#32) (BitVec.ofNat 32 j.val) = x at e
  have e1 : IntOp.cmpi CmpIPredicate.sge x 0#32 = if j.val ≤ r.val + 128 then 1#1 else 0#1 := by
    show BitVec.ofBool (BitVec.sle 0#32 x) = _
    rw [BitVec.sle_eq_decide, e]
    by_cases q : j.val ≤ r.val + 128
    · rw [if_pos q, decide_eq_true (by show (0 : Int) ≤ _; omega)]; rfl
    · rw [if_neg q, decide_eq_false (by show ¬ (0 : Int) ≤ _; omega)]; rfl
  have e2 : IntOp.cmpi CmpIPredicate.slt x 128#32 = if r.val < j.val then 1#1 else 0#1 := by
    show BitVec.ofBool (BitVec.slt x 128#32) = _
    rw [BitVec.slt_eq_decide, e]
    by_cases q : r.val < j.val
    · rw [if_pos q, decide_eq_true (by show _ < (128 : Int); omega)]; rfl
    · rw [if_neg q, decide_eq_false (by show ¬ _ < (128 : Int); omega)]; rfl
  rw [e1, e2]
  by_cases q1 : j.val ≤ r.val + 128 <;> by_cases q2 : r.val < j.val <;> simp [q1, q2, IntOp.andi]

/-- The first block has no block before it. -/
theorem within (i : Fin 64) (j : Fin 256) :
    IntOp.ori (IntOp.cmpi CmpIPredicate.sgt (BitVec.ofNat 32 i.val) 0#32) (IntOp.cmpi CmpIPredicate.sge (BitVec.ofNat 32 j.val) 128#32)
      = if 0 < i.val ∨ 128 ≤ j.val then 1#1 else 0#1 := by
  have e1 : ∀ i : Fin 64, IntOp.cmpi CmpIPredicate.sgt (BitVec.ofNat 32 i.val) 0#32 = if 0 < i.val then 1#1 else 0#1 := by decide +kernel
  have e2 : ∀ j : Fin 256, IntOp.cmpi CmpIPredicate.sge (BitVec.ofNat 32 j.val) 128#32 = if 128 ≤ j.val then 1#1 else 0#1 := by decide +kernel
  rw [e1, e2]
  by_cases q1 : 0 < i.val <;> by_cases q2 : 128 ≤ j.val <;> simp [q1, q2, IntOp.ori]

end Cert.SwaRefIdeal.RefValue
-- ==== Proof.SwaInBand.lean ====
/-
# Which keys a query sees
-/
module

public import proofs.«01_k».proof.Proof.SwaTurn
public import proofs.«01_k».proof.Proof.SwaBand

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- Whether a query sees a key: the key is at most 127 positions behind, and there is such a key. -/
abbrev Seen (i : Fin 64) (r : Fin 128) (j : Fin 256) : Prop :=
  (r.val < j.val ∧ j.val ≤ r.val + 128) ∧ (0 < i.val ∨ 128 ≤ j.val)

/-- Two facts at once. -/
theorem both (p q : Prop) [Decidable p] [Decidable q] :
    IntOp.andi (if p then 1#1 else 0#1) (if q then 1#1 else 0#1 : BitVec 1) = if p ∧ q then 1#1 else 0#1 := by
  by_cases hp : p <;> by_cases hq : q <;> simp [hp, hq, IntOp.andi]

theorem inBand_at (b : Fin 2) (i : Fin 64) (g : Fin 2) (h : Fin 4) (r : Fin 128) (j : Fin 256) :
    inBand (ix6 b i g h r j) = if Seen i r j then 1#1 else 0#1 := by
  pointwise [inBand]
  rw [near, within, both]

theorem neg_infinity : Ideal.ofBits FTy.f32 0xFF800000#32 = ⊥ := by simp [Ideal.ofBits, Ideal.ieee]

end Cert.SwaRefIdeal.RefValue
-- ==== Proof.SwaLanes.lean ====
/-
# The comparisons of lanes and positions in the banded attention
-/
module

public import proofs.«01_k».proof.Proof.Gen.SwaIdeal.Skeleton
public import Idealize.ShloMosaic.Lib.Pointwise
public import proofs.«01_k».proof.Proof.SwaInBand

@[expose] public section

set_option maxRecDepth 16384

noncomputable section

namespace Cert.SwaIdeal.RefValue

open Cert.SwaIdeal Cert.SwaIdeal.Gen Idealize.ShloMosaic Idealize.ShloMosaic.TcCoe Idealize.SL.Sem

open Cert.SwaRefIdeal.RefValue (near both Seen)

/-- A lane of the first half. -/
theorem low (l : Fin 128) : IntOp.cmpi CmpIPredicate.slt (BitVec.ofNat 32 l.val) 64#32 = if l.val < 64 then 1#1 else 0#1 := by
  revert l
  decide +kernel

/-- A row of the first of two stacked heads. -/
theorem upper (R : Fin 256) : IntOp.cmpi CmpIPredicate.slt (BitVec.ofNat 32 R.val) 128#32 = if R.val < 128 then 1#1 else 0#1 := by
  revert R
  decide +kernel

theorem lane_at (r l : Fin 128) : k0_pay18 (iota .tc S128x128 32 [1] iota_S128x128_d1_w32) (ix2 r l) = if l.val < 64 then 1#1 else 0#1 := by
  pointwise [k0_pay18]
  exact low l

theorem half_at (j : Fin 256) (l : Fin 128) : k0_pay10 (ix2 j l) = if l.val < 64 then 1#1 else 0#1 := by
  pointwise [k0_pay10]
  exact low l

/-- The lanes whose partner is eight lanes on. -/
theorem partner_at (r l : Fin 128) : k0_pay2 (ix2 r l) = if l.val % 64 < 8 then 1#1 else 0#1 := by
  pointwise [k0_pay2]
  revert l
  decide +kernel

/-- A row's position in its own head. -/
theorem position (R : Fin 256) :
    (Scalar.select
        (IntOp.andi
          (IntOp.xori
            (IntOp.cmpi CmpIPredicate.slt
              (IntOp.remsi ArithUnit.vector (BitVec.ofNat 32 R.val) (Scalar.select (Scalar.cmpi CmpIPredicate.eq 128#32 0#32) 1#32 128#32)) 0#32)
            (Scalar.cmpi CmpIPredicate.slt (Scalar.select (Scalar.cmpi CmpIPredicate.eq 128#32 0#32) 1#32 128#32) 0#32))
          (IntOp.cmpi CmpIPredicate.ne
            (IntOp.remsi ArithUnit.vector (BitVec.ofNat 32 R.val) (Scalar.select (Scalar.cmpi CmpIPredicate.eq 128#32 0#32) 1#32 128#32)) 0#32))
        (IntOp.addi
          (IntOp.remsi ArithUnit.vector (BitVec.ofNat 32 R.val) (Scalar.select (Scalar.cmpi CmpIPredicate.eq 128#32 0#32) 1#32 128#32))
          (Scalar.select (Scalar.cmpi CmpIPredicate.eq 128#32 0#32) 1#32 128#32))
        (IntOp.remsi ArithUnit.vector (BitVec.ofNat 32 R.val) (Scalar.select (Scalar.cmpi CmpIPredicate.eq 128#32 0#32) 1#32 128#32)) : BitVec 32)
      = BitVec.ofNat 32 (R.val % 128) := by
  revert R
  decide +kernel

/-- A position against the block's keys. -/
theorem band_at (R j : Fin 256) : k0_pay15 (ix2 R j) = if R.val % 128 < j.val ∧ j.val ≤ R.val % 128 + 128 then 1#1 else 0#1 := by
  pointwise [k0_pay15]
  rw [position]
  exact near ⟨R.val % 128, by omega⟩ j

theorem cur_at (R j : Fin 256) : k0_pay16 (ix2 R j) = if 128 ≤ j.val then 1#1 else 0#1 := by
  pointwise [k0_pay16]
  revert j
  decide +kernel

/-- Whether there is a block before. -/
theorem first (i : Fin 64) : Scalar.cmpi CmpIPredicate.sgt (BitVec.ofNat 32 i.val) 0#32 = if 0 < i.val then 1#1 else 0#1 := by
  revert i
  decide +kernel

/-- Which keys a stacked row sees. -/
theorem ok_at (i : Fin 64) (e : Fin 2) (r : Fin 128) (j : Fin 256) :
    k0_pay17 (BitVec.ofNat 32 i.val) k0_pay15 k0_pay16 (ix2 ⟨e.val * 128 + r.val, by omega⟩ j) = if Seen i r j then 1#1 else 0#1 := by
  pointwise [k0_pay17]
  rw [band_at, cur_at, first]
  have q : (e.val * 128 + r.val) % 128 = r.val := by omega
  simp only [q]
  by_cases q1 : 0 < i.val <;> by_cases q2 : 128 ≤ j.val <;> by_cases q3 : r.val < j.val ∧ j.val ≤ r.val + 128 <;>
    simp [q1, q2, q3, Seen, IntOp.andi, IntOp.ori]

end Cert.SwaIdeal.RefValue
-- ==== Proof.SwaEntry.lean ====
/-
# The entries of a pair of heads
-/
module

public import proofs.«01_k».proof.Proof.Gen.SwaIdeal.Skeleton
public import Idealize.ShloMosaic.Lib.Pointwise
public import proofs.«01_k».proof.Proof.SwaHead
public import proofs.«01_k».proof.Proof.SwaPair
public import proofs.«01_k».proof.Proof.SwaLanes

@[expose] public section

set_option maxRecDepth 16384

noncomputable section

namespace Cert.SwaIdeal.RefValue

open Cert.SwaIdeal Cert.SwaIdeal.Gen Idealize.ShloMosaic Idealize.ShloMosaic.TcCoe Idealize.SL.Sem

open Cert.SwaRefIdeal.RefValue (neg_infinity Seen)
open Cert.SwaSoftmax (headRow)

/-- A choice by a condition. -/
theorem sel (p : Prop) [Decidable p] (a b : EReal) : (Scalar.select (if p then 1#1 else 0#1 : BitVec 1) a b : EReal) = if p then a else b := by
  by_cases h : p
  · rw [if_pos h, if_pos h]; rfl
  · rw [if_neg h, if_neg h]; rfl

/-- A store's entry: a row of one head. -/
theorem pay1_at (v : FVec Ideal S256x128 .f32) (h : IVec S128x128 1) (L : FVec Ideal S256x256 .f32) (s : FVec Ideal S256x1 .f32) (r l : Fin 128) :
    k0_pay1 v h L s (ix2 r l) = Scalar.select (h (ix2 r l))
      (headRow (fun j => L (ix2 ⟨r.val, by omega⟩ j)) (s (ix2 ⟨r.val, by omega⟩ 0)) (fun j => v (ix2 j l)))
      (headRow (fun j => L (ix2 ⟨128 + r.val, by omega⟩ j)) (s (ix2 ⟨128 + r.val, by omega⟩ 0)) (fun j => v (ix2 j l))) := by
  pointwise [k0_pay1, headRow]
  rw [neg_infinity]

/-- A turned lane: itself by the cosine, its partner by the sine. -/
theorem rope_at (C S x : Vec Ideal S128x128 .f32) (r l : Fin 128) :
    k0_pay3 C S x (ix2 r l) = x (ix2 r l) * C (ix2 r l)
      + (if l.val % 64 < 8 then x (ix2 r ⟨(l.val + 128 - 120) % 128, Nat.mod_lt _ (by omega)⟩) else x (ix2 r ⟨(l.val + 128 - 8) % 128, Nat.mod_lt _ (by omega)⟩)) * S (ix2 r l) := by
  pointwise [k0_pay3]
  rw [partner_at, sel]

/-- The mask is minus infinity. -/
theorem mask_bot : (Named.named κ "mask" (F := Ideal) (φ := .f32) 0xF149F2CA#32 : EReal) = ⊥ := rfl

/-- A sum over two halves. -/
theorem sum_halves (f : Fin 128 → EReal) : ∑ l, f l = (∑ x : Fin 64, f ⟨x.val, by omega⟩) + ∑ x : Fin 64, f ⟨64 + x.val, by omega⟩ :=
  Fin.sum_univ_add (a := 64) (b := 64) f

/-- The scores of the two stacked heads: a row of one head meets its own half alone. -/
theorem logits_raw (C S : Vec Ideal S128x128 .f32) (k : FVec Ideal S256x128 .f32) (ok : IVec S256x256 1) (h : IVec S128x128 1) (x : Vec Ideal S128x128 .f32) (R j : Fin 256) :
    k0_pay25 k0_pay2 C S k ok h x (ix2 R j) = Scalar.select (ok (ix2 R j))
      (∑ l : Fin 128, (if hR : R.val < 128 then Scalar.select (h (ix2 ⟨R.val, hR⟩ l)) (k0_pay3 C S x (ix2 ⟨R.val, hR⟩ l) * Ideal.ofBits FTy.f32 0x3E000000#32) 0
          else Scalar.select (h (ix2 ⟨R.val - 128, by omega⟩ l)) 0 (k0_pay3 C S x (ix2 ⟨R.val - 128, by omega⟩ l) * Ideal.ofBits FTy.f32 0x3E000000#32)) * k (ix2 j l))
      ⊥ := by
  pointwise [k0_pay25, k0_pay3]
  rfl

theorem logits_at (C S : Vec Ideal S128x128 .f32) (k : FVec Ideal S256x128 .f32) (x : Vec Ideal S128x128 .f32) (i : Fin 64) (e : Fin 2) (r : Fin 128) (j : Fin 256) :
    k0_pay25 k0_pay2 C S k (k0_pay17 (BitVec.ofNat 32 i.val) k0_pay15 k0_pay16) (k0_pay18 lanes) x (ix2 ⟨e.val * 128 + r.val, by omega⟩ j)
      = if Seen i r j then ∑ d : Fin 64, k0_pay3 C S x (ix2 r ⟨e.val * 64 + d.val, by omega⟩) * Ideal.ofBits FTy.f32 0x3E000000#32 * k (ix2 j ⟨e.val * 64 + d.val, by omega⟩) else ⊥ := by
  rw [logits_raw, ok_at, sel]
  refine if_congr Iff.rfl ?_ rfl
  rw [sum_halves]
  simp only [lane_at, sel]
  match e with
  | 0 =>
    have q : ((0 : Fin 2).val * 128 + r.val) < 128 := by have := r.isLt; simp
    simp only [dif_pos q]
    rw [Finset.sum_eq_zero (s := Finset.univ) (f := fun d : Fin 64 => (if (64 + d.val) < 64 then _ else (0 : EReal)) * _) (fun d _ => by rw [if_neg (by omega), zero_mul]), add_zero]
    refine Finset.sum_congr rfl fun d _ => ?_
    rw [if_pos d.isLt]
    simp
  | 1 =>
    have q : ¬ ((1 : Fin 2).val * 128 + r.val) < 128 := by simp
    simp only [dif_neg q]
    rw [Finset.sum_eq_zero (s := Finset.univ) (f := fun d : Fin 64 => (if d.val < 64 then (0 : EReal) else _) * _) (fun d _ => by rw [if_pos d.isLt, zero_mul]), zero_add]
    refine Finset.sum_congr rfl fun d _ => ?_
    rw [if_neg (by omega)]
    simp

/-- The sinks of the two stacked heads. -/
theorem sink_at (a b : Elt Ideal .f32) (R : Fin 256) : k0_pay37 (iota .tc S256x1 32 [0] iota_S256x1_d0_w32) a b (ix2 R 0) = (if R.val < 128 then a else b : EReal) := by
  pointwise [k0_pay37]
  rw [upper]
  exact sel _ _ _

/-- The block before over the block itself. -/
theorem both_at (a b : Vec Ideal S128x128 .f32) (j : Fin 256) (l : Fin 128) :
    k0_pay7 a b (ix2 j l) = if hj : j.val < 128 then a (ix2 ⟨j.val, hj⟩ l) else b (ix2 ⟨j.val - 128, by omega⟩ l) := by
  pointwise [k0_pay7]

/-- A group of keys, in both halves: the first group. -/
theorem keys0_at (a : FVec Ideal S128x128 .f32) (b : Vec Ideal S128x128 .f32) (c d : FVec Ideal S128x128 .f32) (j : Fin 256) (e : Fin 2) (x : Fin 64) :
    k0_pay11 a b c d (ix2 j ⟨e.val * 64 + x.val, by omega⟩) = k0_pay6 a b c d (ix2 j ⟨x.val, by omega⟩) := by
  pointwise [k0_pay11, k0_pay8]
  rw [half_at, sel]
  match e with
  | 0 => rw [if_pos (by simp)]; simp
  | 1 => rw [if_neg (by simp)]; exact congrArg (fun z => k0_pay6 a b c d (ix2 j z)) (Fin.ext (by simp; omega))

/-- A group of keys, in both halves: the second group. -/
theorem keys1_at (a : FVec Ideal S128x128 .f32) (b : Vec Ideal S128x128 .f32) (c d : FVec Ideal S128x128 .f32) (j : Fin 256) (e : Fin 2) (x : Fin 64) :
    k0_pay12 a b c d (ix2 j ⟨e.val * 64 + x.val, by omega⟩) = k0_pay6 a b c d (ix2 j ⟨64 + x.val, by omega⟩) := by
  pointwise [k0_pay12, k0_pay8]
  rw [half_at, sel]
  match e with
  | 0 => rw [if_pos (by simp)]; exact congrArg (fun z => k0_pay6 a b c d (ix2 j z)) (Fin.ext (by simp; omega))
  | 1 => rw [if_neg (by simp)]; exact congrArg (fun z => k0_pay6 a b c d (ix2 j z)) (Fin.ext (by simp))

/-- A group of values, in both halves: the first group. -/
theorem values0_at (a b : Vec Ideal S128x128 .f32) (j : Fin 256) (e : Fin 2) (x : Fin 64) :
    k0_pay13 a b (ix2 j ⟨e.val * 64 + x.val, by omega⟩) = k0_pay7 a b (ix2 j ⟨x.val, by omega⟩) := by
  pointwise [k0_pay13, k0_pay9]
  rw [half_at, sel]
  match e with
  | 0 => rw [if_pos (by simp)]; simp
  | 1 => rw [if_neg (by simp)]; exact congrArg (fun z => k0_pay7 a b (ix2 j z)) (Fin.ext (by simp; omega))

/-- A group of values, in both halves: the second group. -/
theorem values1_at (a b : Vec Ideal S128x128 .f32) (j : Fin 256) (e : Fin 2) (x : Fin 64) :
    k0_pay14 a b (ix2 j ⟨e.val * 64 + x.val, by omega⟩) = k0_pay7 a b (ix2 j ⟨64 + x.val, by omega⟩) := by
  pointwise [k0_pay14, k0_pay9]
  rw [half_at, sel]
  match e with
  | 0 => rw [if_pos (by simp)]; exact congrArg (fun z => k0_pay7 a b (ix2 j z)) (Fin.ext (by simp; omega))
  | 1 => rw [if_neg (by simp)]; exact congrArg (fun z => k0_pay7 a b (ix2 j z)) (Fin.ext (by simp))

end Cert.SwaIdeal.RefValue
-- ==== Proof.SwaReduce.lean ====
/-
# Reductions along the last of six axes
-/
module

public import proofs.«01_k».proof.Proof.Gen.SwaRefIdeal.Run
public import Idealize.ShloMosaic.Lib.Pointwise

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- The indices that lose their last coordinate to a given index. -/
theorem last_axis {n0 n1 n2 n3 n4 n5 : ℕ} (h : (⟨6, ![n0, n1, n2, n3, n4, n5]⟩ : Shape).ReducesTo [5] ⟨5, ![n0, n1, n2, n3, n4]⟩)
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    have q0 : i 0 = a := Fin.ext (congrArg Fin.val (congrFun q 0))
    have q1 : i 1 = b := Fin.ext (congrArg Fin.val (congrFun q 1))
    have q2 : i 2 = c := Fin.ext (congrArg Fin.val (congrFun q 2))
    have q3 : i 3 = d := Fin.ext (congrArg Fin.val (congrFun q 3))
    have q4 : i 4 = e := Fin.ext (congrArg Fin.val (congrFun q 4))
    subst q0 q1 q2 q3 q4
    exact (eq_ix6 i).symm
  · rintro ⟨k, rfl⟩
    funext x
    apply Fin.ext
    fin_cases x <;> rfl

theorem last_injective {n0 n1 n2 n3 n4 n5 : ℕ} (a : Fin n0) (b : Fin n1) (c : Fin n2) (d : Fin n3) (e : Fin n4) :
    Function.Injective fun k : Fin n5 => ix6 a b c d e k :=
  fun _ _ q => congrFun q 5

/-- The greatest along the last axis. -/
theorem max_last {n0 n1 n2 n3 n4 n5 : ℕ} {u : Shape} (x : FVec Ideal ⟨6, ![n0, n1, n2, n3, n4, n5]⟩ .f32) (init : FVec Ideal u .f32)
    (h : (⟨6, ![n0, n1, n2, n3, n4, n5]⟩ : Shape).ReducesTo [5] ⟨5, ![n0, n1, n2, n3, n4]⟩) (hu : 0 < u.numel)
    (a : Fin n0) (b : Fin n1) (c : Fin n2) (d : Fin n3) (e : Fin n4) :
    Host.reduce (FloatOps.maximumf (F := Ideal) (φ := .f32)) x init h hu (ix5 a b c d e)
      = Finset.univ.fold max (init (Shape.Idx.first hu)) fun k : Fin n5 => x (ix6 a b c d e k) := by
  rw [Ideal.maximumf_eq_max, Host.reduce_eq_fold]
  exact Finset.fold_filter_eq_fold_of_fiber max _ _ (last_injective a b c d e) (last_axis h a b c d e) _ _

/-- The sum along the last axis. -/
theorem sum_last {n0 n1 n2 n3 n4 n5 : ℕ} {u : Shape} (x : FVec Ideal ⟨6, ![n0, n1, n2, n3, n4, n5]⟩ .f32) (init : FVec Ideal u .f32)
    (h : (⟨6, ![n0, n1, n2, n3, n4, n5]⟩ : Shape).ReducesTo [5] ⟨5, ![n0, n1, n2, n3, n4]⟩) (hu : 0 < u.numel)
    (a : Fin n0) (b : Fin n1) (c : Fin n2) (d : Fin n3) (e : Fin n4) :
    Host.reduceAdd x init h hu (ix5 a b c d e)
      = init (Shape.Idx.first hu) + ∑ k : Fin n5, x (ix6 a b c d e k) := by
  rw [Host.reduceAdd_apply, Ideal.hostReduceAdd_def]
  exact congrArg (_ + ·) (Finset.sum_filter_eq_sum_of_fiber _ _ (last_injective a b c d e) (last_axis h a b c d e) _)

end Cert.SwaRefIdeal.RefValue
-- ==== Proof.SwaRows.lean ====
/-
# The rows' greatest entries and sums
-/
module

public import proofs.«01_k».proof.Proof.SwaInBand
public import proofs.«01_k».proof.Proof.SwaReduce

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

theorem rowMax_at (P : FVec Ideal S16384x7040 .f32) (C S : FVec Ideal S16384x128 .f32) (s : FVec Ideal S8 .f32) (b : Fin 2) (i : Fin 64) (g : Fin 2) (h : Fin 4) (r : Fin 128) :
    rowMax P C S s (ix5 b i g h r) = Finset.univ.fold max ⊥ fun k : Fin 257 => withSink P C S s (ix6 b i g h r k) := by
  refine (max_last (withSink P C S s) _ _ _ b i g h r).trans ?_
  exact congrArg (fun z => Finset.univ.fold max z fun k : Fin 257 => withSink P C S s (ix6 b i g h r k)) neg_infinity

theorem rowSum_at (P : FVec Ideal S16384x7040 .f32) (C S : FVec Ideal S16384x128 .f32) (s : FVec Ideal S8 .f32) (b : Fin 2) (i : Fin 64) (g : Fin 2) (h : Fin 4) (r : Fin 128) :
    rowSum P C S s (ix5 b i g h r) = ∑ k : Fin 257, exps P C S s (ix6 b i g h r k) := by
  refine (sum_last (exps P C S s) _ _ _ b i g h r).trans ?_
  exact (congrArg (· + _) Ideal.ofBits_zero_f32).trans (zero_add _)

end Cert.SwaRefIdeal.RefValue
-- ==== Proof.SwaExps.lean ====
/-
# The exponentials
-/
module

public import proofs.«01_k».proof.Proof.SwaRows

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

theorem exps_at (P : FVec Ideal S16384x7040 .f32) (C S : FVec Ideal S16384x128 .f32) (s : FVec Ideal S8 .f32) (b : Fin 2) (i : Fin 64) (g : Fin 2) (h : Fin 4) (r : Fin 128) (k : Fin 257) :
    exps P C S s (ix6 b i g h r k) = Ideal.exp (withSink P C S s (ix6 b i g h r k) - max ⊥ (Finset.univ.fold max ⊥ fun k : Fin 257 => withSink P C S s (ix6 b i g h r k))) := by
  rw [← rowMax_at]
  have q : ∀ (x : FVec Ideal S2x64x2x4x128x257 .f32) (y : FVec Ideal S2x64x2x4x128 .f32), withSink P C S s = x → rowMax P C S s = y →
      exps P C S s (ix6 b i g h r k) = Ideal.exp (x (ix6 b i g h r k) - max (Ideal.ofBits FTy.f32 0xFF800000#32) (y (ix5 b i g h r))) := by
    intro x y hx hy
    unfold exps greatest
    rw [hx, hy]
    pointwise
  rw [q _ _ rfl rfl, neg_infinity]

end Cert.SwaRefIdeal.RefValue
-- ==== Proof.SwaSink.lean ====
/-
# The rows with their sinks
-/
module

public import proofs.«01_k».proof.Proof.SwaTurn

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- The row with its sink, entry by entry. -/
theorem withSink_at (P : FVec Ideal S16384x7040 .f32) (C S : FVec Ideal S16384x128 .f32) (s : FVec Ideal S8 .f32) (b : Fin 2) (i : Fin 64) (g : Fin 2) (h : Fin 4) (r : Fin 128) (j : Fin 257) :
    withSink P C S s (ix6 b i g h r j) = if hj : j.val < 256 then scores P C S (ix6 b i g h r ⟨j.val, hj⟩) else s (ix1 ⟨g.val * 4 + h.val, by omega⟩) := by
  pointwise [withSink]

end Cert.SwaRefIdeal.RefValue
-- ==== Proof.SwaTurnQ.lean ====
/-
# The turned queries
-/
module

public import proofs.«01_k».proof.Proof.SwaTurn

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

theorem ropeQ_at (P : FVec Ideal S16384x7040 .f32) (C S : FVec Ideal S16384x128 .f32) (b : Fin 2) (n : Fin 8192) (h : Fin 8) (d : Fin 64) :
    ropeQ P C S (ix4 b n h d) = queryAt P C S ⟨b.val * 8192 + n.val, by omega⟩ h d := by
  pointwise [ropeQ, xq, cosT, sinT, queryAt, turn]
  by_cases h : d.val < 8
  · simp only [h, dite_true]
  · have e1 : 8 + (d.val - 8) = d.val := by omega
    simp only [h, dite_false, e1]
    by_cases h' : d.val - 8 < 8
    · simp only [h', dite_true]
    · have e2 : 16 + (d.val - 8 - 8) = d.val := by omega
      simp only [h', dite_false, e2]

end Cert.SwaRefIdeal.RefValue
-- ==== Proof.SwaScores.lean ====
/-
# The scores
-/
module

public import proofs.«01_k».proof.Proof.SwaInBand
public import proofs.«01_k».proof.Proof.SwaTurnQ

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- A score: minus infinity where the query does not see the key. -/
theorem scores_at (P : FVec Ideal S16384x7040 .f32) (C S : FVec Ideal S16384x128 .f32) (b : Fin 2) (i : Fin 64) (g : Fin 2) (h : Fin 4) (r : Fin 128) (j : Fin 256) :
    scores P C S (ix6 b i g h r j) = if Seen i r j then
        ∑ x : Fin 64, keys P C S (ix5 b i j g x) * (queryAt P C S (tok b i r) ⟨g.val * 4 + h.val, by omega⟩ x * Ideal.ofBits FTy.f32 0x3E000000#32)
      else ⊥ := by
  pointwise [scores]
  simp only [inBand_at, ropeQ_at]
  by_cases e : Seen i r j
  · rw [if_pos e, if_pos e]; rfl
  · rw [if_neg e, if_neg e]; exact neg_infinity

end Cert.SwaRefIdeal.RefValue
-- ==== Proof.SwaTurnK.lean ====
/-
# The turned keys
-/
module

public import proofs.«01_k».proof.Proof.SwaTurn

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

theorem ropeK_at (P : FVec Ideal S16384x7040 .f32) (C S : FVec Ideal S16384x128 .f32) (b : Fin 2) (n : Fin 8192) (g : Fin 2) (d : Fin 64) :
    ropeK P C S (ix4 b n g d) = keyAt P C S ⟨b.val * 8192 + n.val, by omega⟩ g d := by
  pointwise [ropeK, xk, cosT, sinT, keyAt, turn]
  by_cases h : d.val < 8
  · simp only [h, dite_true]
  · have e1 : 8 + (d.val - 8) = d.val := by omega
    simp only [h, dite_false, e1]
    by_cases h' : d.val - 8 < 8
    · simp only [h', dite_true]
    · have e2 : 16 + (d.val - 8 - 8) = d.val := by omega
      simp only [h', dite_false, e2]

end Cert.SwaRefIdeal.RefValue
-- ==== Proof.SwaKeys.lean ====
/-
# The keys a block of queries can see
-/
module

public import proofs.«01_k».proof.Proof.SwaTurnK

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- A key that a block of queries can see: a zero before the first block. -/
theorem keys_at (P : FVec Ideal S16384x7040 .f32) (C S : FVec Ideal S16384x128 .f32) (b : Fin 2) (i : Fin 64) (j : Fin 256) (g : Fin 2) (d : Fin 64) :
    keys P C S (ix5 b i j g d) = if hj : j.val < 128 then (if _ : i.val < 1 then 0 else keyAt P C S (tok b ⟨i.val - 1, by omega⟩ ⟨j.val, hj⟩) g d)
      else keyAt P C S (tok b i ⟨j.val - 128, by omega⟩) g d := by
  have q : ∀ x : FVec Ideal S2x8192x2x64 .f32, ropeK P C S = x → keys P C S (ix5 b i j g d)
      = if hj : j.val < 128 then (if _ : i.val < 1 then 0 else x (ix4 b ⟨(i.val - 1) * 128 + j.val, by omega⟩ g d))
        else x (ix4 b ⟨i.val * 128 + (j.val - 128), by omega⟩ g d) := by
    intro x hx
    unfold keys
    rw [hx]
    pointwise
  rw [q _ rfl]
  simp only [ropeK_at, tok]

end Cert.SwaRefIdeal.RefValue
-- ==== Proof.SwaValues.lean ====
/-
# The values a block of queries can see
-/
module

public import proofs.«01_k».proof.Proof.SwaTurn

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- A value that a block of queries can see: a zero before the first block. -/
theorem values_at (P : FVec Ideal S16384x7040 .f32) (b : Fin 2) (i : Fin 64) (j : Fin 256) (g : Fin 2) (d : Fin 64) :
    values P (ix5 b i j g d) = if hj : j.val < 128 then (if _ : i.val < 1 then 0 else P (ix2 (tok b ⟨i.val - 1, by omega⟩ ⟨j.val, hj⟩) ⟨6784 + (g.val * 64 + d.val), by omega⟩))
      else P (ix2 (tok b i ⟨j.val - 128, by omega⟩) ⟨6784 + (g.val * 64 + d.val), by omega⟩) := by
  pointwise [values]
  simp only [tok, Nat.add_assoc]

end Cert.SwaRefIdeal.RefValue
-- ==== Proof.SwaRefEq.lean ====
/-
# The reference's run is the named steps
-/
module

public import proofs.«01_k».proof.Proof.SwaRef

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- The run's result is that function of the launched arguments. -/
theorem res_eq (m : (ℓ : Loc nD τ sig) → Buf (Elt Ideal) ℓ) (c : Dev nD) :
    Value.res_main_v102 (F := Ideal) m c = REF (m ((c.tc : Thread nD τ).loc main_arg0)) (m ((c.tc : Thread nD τ).loc main_arg1)) (m ((c.tc : Thread nD τ).loc main_arg2)) (m ((c.tc : Thread nD τ).loc main_arg3)) := rfl

end Cert.SwaRefIdeal.RefValue
-- ==== Proof.SwaRefAt.lean ====
/-
# The reference's entries
-/
module

public import proofs.«01_k».proof.Proof.SwaExps
public import proofs.«01_k».proof.Proof.SwaSink
public import proofs.«01_k».proof.Proof.SwaScores
public import proofs.«01_k».proof.Proof.SwaKeys
public import proofs.«01_k».proof.Proof.SwaValues
public import proofs.«01_k».proof.Proof.SwaRefEq

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

/-- The reference's entry: the values weighted by the exponentials, each over the sum of the row and its sink. -/
theorem ref_at (P : FVec Ideal S16384x7040 .f32) (C S : FVec Ideal S16384x128 .f32) (s : FVec Ideal S8 .f32) (b : Fin 2) (i : Fin 64) (r : Fin 128) (g : Fin 2) (h : Fin 4) (d : Fin 64) :
    REF P C S s (ix2 (tok b i r) ⟨(g.val * 4 + h.val) * 64 + d.val, by omega⟩)
      = ∑ j : Fin 256, values P (ix5 b i j g d) * Ideal.div (exps P C S s (ix6 b i g h r (Fin.castSucc j))) (∑ k : Fin 257, exps P C S s (ix6 b i g h r k)) := by
  rw [← rowSum_at]
  unfold REF
  generalize rowSum P C S s = z
  generalize exps P C S s = y
  generalize values P = x
  pointwise [tok]
  rfl

end Cert.SwaRefIdeal.RefValue
-- ==== Proof.SwaMatch.lean ====
/-
# A row of the reference is a row of a head

The reference divides term by term; a key it does not see counts for nothing on either side.
-/
module

public import proofs.«01_k».proof.Proof.SwaRefAt
public import proofs.«01_k».proof.Proof.SwaHead

@[expose] public section

set_option maxRecDepth 16384

noncomputable section

namespace Cert.SwaRefIdeal.RefValue

open Cert.SwaRefIdeal Cert.SwaRefIdeal.Gen Idealize.ShloMosaic Idealize.ShloMosaic.TcCoe Idealize.SL.Sem

open Cert.SwaSoftmax (headRow softmax_sink Finite)

/-- The block before, or the first. -/
def prev (i : Fin 64) : Fin 64 := ⟨i.val - 1, by omega⟩

/-- The turned keys of the block before and of the block itself. -/
def keyRow (P : FVec Ideal S16384x7040 .f32) (C S : FVec Ideal S16384x128 .f32) (b : Fin 2) (i : Fin 64) (j : Fin 256) (g : Fin 2) (x : Fin 64) : EReal :=
  if hj : j.val < 128 then keyAt P C S (tok b (prev i) ⟨j.val, hj⟩) g x else keyAt P C S (tok b i ⟨j.val - 128, by omega⟩) g x

/-- The values of the block before and of the block itself. -/
def valRow (P : FVec Ideal S16384x7040 .f32) (b : Fin 2) (i : Fin 64) (j : Fin 256) (g : Fin 2) (d : Fin 64) : EReal :=
  if hj : j.val < 128 then P (ix2 (tok b (prev i) ⟨j.val, hj⟩) ⟨6784 + (g.val * 64 + d.val), by omega⟩) else P (ix2 (tok b i ⟨j.val - 128, by omega⟩) ⟨6784 + (g.val * 64 + d.val), by omega⟩)

/-- The scores of a row of a head. -/
def row (P : FVec Ideal S16384x7040 .f32) (C S : FVec Ideal S16384x128 .f32) (b : Fin 2) (i : Fin 64) (r : Fin 128) (c : Fin 8) (g : Fin 2) (j : Fin 256) : EReal :=
  if Seen i r j then ∑ x : Fin 64, queryAt P C S (tok b i r) c x * Ideal.ofBits FTy.f32 0x3E000000#32 * keyRow P C S b i j g x else ⊥

theorem keys_seen (P : FVec Ideal S16384x7040 .f32) (C S : FVec Ideal S16384x128 .f32) (b : Fin 2) (i : Fin 64) (r : Fin 128) (j : Fin 256) (g : Fin 2) (x : Fin 64) (h : Seen i r j) :
    keys P C S (ix5 b i j g x) = keyRow P C S b i j g x := by
  rw [keys_at]
  unfold keyRow
  by_cases hj : j.val < 128
  · rw [dif_pos hj, dif_pos hj, dif_neg (by have := h.2; omega)]; rfl
  · rw [dif_neg hj, dif_neg hj]

theorem values_seen (P : FVec Ideal S16384x7040 .f32) (b : Fin 2) (i : Fin 64) (r : Fin 128) (j : Fin 256) (g : Fin 2) (d : Fin 64) (h : Seen i r j) :
    values P (ix5 b i j g d) = valRow P b i j g d := by
  rw [values_at]
  unfold valRow
  by_cases hj : j.val < 128
  · rw [dif_pos hj, dif_pos hj, dif_neg (by have := h.2; omega)]; rfl
  · rw [dif_neg hj, dif_neg hj]

theorem scores_row (P : FVec Ideal S16384x7040 .f32) (C S : FVec Ideal S16384x128 .f32) (b : Fin 2) (i : Fin 64) (g : Fin 2) (h : Fin 4) (r : Fin 128) (j : Fin 256) :
    scores P C S (ix6 b i g h r j) = row P C S b i r ⟨g.val * 4 + h.val, by omega⟩ g j := by
  rw [scores_at]
  unfold row
  by_cases q : Seen i r j
  · rw [if_pos q, if_pos q]
    refine Finset.sum_congr rfl fun x _ => ?_
    rw [keys_seen P C S b i r j g x q, mul_comm]
  · rw [if_neg q, if_neg q]

/-- A row of a head is the reference's entry. -/
theorem head_ref (P : FVec Ideal S16384x7040 .f32) (C S : FVec Ideal S16384x128 .f32) (s : FVec Ideal S8 .f32) (b : Fin 2) (i : Fin 64) (r : Fin 128) (g : Fin 2) (h : Fin 4) (d : Fin 64)
    (hL : ∀ j, row P C S b i r ⟨g.val * 4 + h.val, by omega⟩ g j ≠ ⊤) (hs : Finite (s (ix1 ⟨g.val * 4 + h.val, by omega⟩))) :
    headRow (row P C S b i r ⟨g.val * 4 + h.val, by omega⟩ g) (s (ix1 ⟨g.val * 4 + h.val, by omega⟩)) (fun j => valRow P b i j g d)
      = REF P C S s (ix2 (tok b i r) ⟨(g.val * 4 + h.val) * 64 + d.val, by omega⟩) := by
  rw [ref_at]
  simp only [exps_at]
  unfold headRow
  refine softmax_sink (row P C S b i r ⟨g.val * 4 + h.val, by omega⟩ g) (fun j => valRow P b i j g d) (fun j => values P (ix5 b i j g d))
    (s (ix1 ⟨g.val * 4 + h.val, by omega⟩)) (fun k => withSink P C S s (ix6 b i g h r k)) (fun j => ?_) ?_ hL hs.ne_top hs.ne_bot fun j hj => ?_
  · refine (withSink_at P C S s b i g h r _).trans ?_
    rw [dif_pos (by exact j.isLt)]
    exact scores_row P C S b i g h r j
  · refine (withSink_at P C S s b i g h r _).trans ?_
    rw [dif_neg (by simp)]
  · have q : Seen i r j := by
      by_contra q
      exact hj (if_neg q)
    exact (values_seen P b i r j g d q).symm

/-- The arguments that the scores are computed from are finite. -/
structure Good (P : FVec Ideal S16384x7040 .f32) (C S : FVec Ideal S16384x128 .f32) : Prop where
  query : ∀ (t : Fin 16384) (k : Fin 512), Finite (P (ix2 t ⟨5632 + k.val, by omega⟩))
  key : ∀ (t : Fin 16384) (k : Fin 128), Finite (P (ix2 t ⟨6656 + k.val, by omega⟩))
  cosine : ∀ (t : Fin 16384) (l : Fin 128), Finite (C (ix2 t l))
  sine : ∀ (t : Fin 16384) (l : Fin 128), Finite (S (ix2 t l))

theorem turn_finite (x : Fin 64 → EReal) (c s : Fin 8 → EReal) (d : Fin 64) (hx : ∀ e, Finite (x e)) (hc : ∀ e, Finite (c e)) (hs : ∀ e, Finite (s e)) :
    Finite (turn x c s d) := by
  unfold turn
  split
  · exact ((hx _).mul (hc _)).sub ((hx _).mul (hs _))
  · split
    · exact ((hx _).mul (hc _)).add ((hx _).mul (hs _))
    · exact hx _

theorem row_ne_top (P : FVec Ideal S16384x7040 .f32) (C S : FVec Ideal S16384x128 .f32) (q : Good P C S) (b : Fin 2) (i : Fin 64) (r : Fin 128) (c : Fin 8) (g : Fin 2) (j : Fin 256) :
    row P C S b i r c g j ≠ ⊤ := by
  unfold row
  split
  · refine (Finite.sum fun x => ?_).ne_top
    refine ((turn_finite _ _ _ _ (fun e => q.query _ ⟨c.val * 64 + e.val, by omega⟩) (fun e => q.cosine _ _) (fun e => q.sine _ _)).mul Cert.SwaSoftmax.finite_scale).mul ?_
    unfold keyRow
    split
    · exact turn_finite _ _ _ _ (fun e => q.key _ ⟨g.val * 64 + e.val, by omega⟩) (fun e => q.cosine _ _) (fun e => q.sine _ _)
    · exact turn_finite _ _ _ _ (fun e => q.key _ ⟨g.val * 64 + e.val, by omega⟩) (fun e => q.cosine _ _) (fun e => q.sine _ _)
  · exact bot_ne_top

/-- The layout of the tables: each head's first eight lanes and the next eight hold one angle each, the others none. -/
structure Tables (C S : FVec Ideal S16384x128 .f32) : Prop where
  first : ∀ (t : Fin 16384) (g : Fin 2) (d : Fin 64) (h : d.val < 8),
    C (ix2 t ⟨g.val * 64 + d.val, by omega⟩) = C (ix2 t ⟨d.val, by omega⟩) ∧ S (ix2 t ⟨g.val * 64 + d.val, by omega⟩) = - S (ix2 t ⟨8 + d.val, by omega⟩)
  second : ∀ (t : Fin 16384) (g : Fin 2) (d : Fin 64) (_ : ¬ d.val < 8) (h : d.val - 8 < 8),
    C (ix2 t ⟨g.val * 64 + d.val, by omega⟩) = C (ix2 t ⟨d.val - 8, by omega⟩) ∧ S (ix2 t ⟨g.val * 64 + d.val, by omega⟩) = S (ix2 t ⟨8 + (d.val - 8), by omega⟩)
  rest : ∀ (t : Fin 16384) (g : Fin 2) (d : Fin 64) (_ : ¬ d.val < 8) (_ : ¬ d.val - 8 < 8),
    C (ix2 t ⟨g.val * 64 + d.val, by omega⟩) = 1 ∧ S (ix2 t ⟨g.val * 64 + d.val, by omega⟩) = 0

end Cert.SwaRefIdeal.RefValue
-- ==== Proof.SwaStore.lean ====
/-
# A store of the banded attention is a pair of rows of the reference
-/
module

public import proofs.«01_k».proof.Proof.Gen.SwaIdeal.Skeleton
public import Idealize.ShloMosaic.Lib.Pointwise
public import proofs.«01_k».proof.Proof.SwaEntry
public import proofs.«01_k».proof.Proof.SwaMatch

@[expose] public section

set_option maxRecDepth 16384

noncomputable section

namespace Cert.SwaIdeal.RefValue

open Cert.SwaIdeal Cert.SwaIdeal.Gen Idealize.ShloMosaic Idealize.ShloMosaic.TcCoe Idealize.SL.Sem

open Cert.SwaRefIdeal.RefValue
open Cert.SwaSoftmax (headRow Finite)

variable (P : FVec Ideal S16384x7040 .f32) (C S : FVec Ideal S16384x128 .f32) (s : FVec Ideal S8 .f32)

/-- The rows of a table that a block holds. -/
abbrev rows (X : FVec Ideal S16384x128 .f32) (b : Fin 2) (i : Fin 64) : Vec Ideal S128x128 .f32 := fun y => X (ix2 (tok b i (y 0)) (y 1))

/-- 128 columns of the rows that a block holds. -/
abbrev cols (o : ℕ) (ho : o + 128 ≤ 7040) (b : Fin 2) (i : Fin 64) : Vec Ideal S128x128 .f32 :=
  fun y => P (ix2 (tok b i (y 0)) ⟨o + (y 1).val, by have h : (y 1).val < 128 := (y 1).isLt; omega⟩)

/-- A turned lane, by the tables' layout. -/
theorem rope_turn (q : Tables C S) (b : Fin 2) (i : Fin 64) (x : Vec Ideal S128x128 .f32) (r : Fin 128) (g : Fin 2) (d : Fin 64) :
    k0_pay3 (rows C b i) (rows S b i) x (ix2 r ⟨g.val * 64 + d.val, by omega⟩)
      = turn (fun e => x (ix2 r ⟨g.val * 64 + e.val, by omega⟩)) (fun e => C (ix2 (tok b i r) ⟨e.val, by omega⟩)) (fun e => S (ix2 (tok b i r) ⟨8 + e.val, by omega⟩)) d := by
  rw [rope_at]
  have hm : (g.val * 64 + d.val) % 64 = d.val := by omega
  unfold turn
  by_cases h : d.val < 8
  · rw [dif_pos h, if_pos (by rw [hm]; exact h)]
    have e : (⟨(g.val * 64 + d.val + 128 - 120) % 128, Nat.mod_lt _ (by omega)⟩ : Fin 128) = ⟨g.val * 64 + (8 + d.val), by omega⟩ := Fin.ext (by simp only; omega)
    obtain ⟨q1, q2⟩ := q.first (tok b i r) g d h
    refine (congrArg₂ (· + ·) (congrArg (_ * ·) q1) (congrArg₂ (· * ·) (congrArg (fun z => x (ix2 r z)) e) q2)).trans ?_
    rw [mul_neg, ← sub_eq_add_neg]
  · rw [dif_neg h, if_neg (by rw [hm]; exact h)]
    have e : (⟨(g.val * 64 + d.val + 128 - 8) % 128, Nat.mod_lt _ (by omega)⟩ : Fin 128) = ⟨(g.val * 64 + d.val + 120) % 128, Nat.mod_lt _ (by omega)⟩ := Fin.ext (by simp only; omega)
    by_cases h' : d.val - 8 < 8
    · rw [dif_pos h']
      have e : (⟨(g.val * 64 + d.val + 128 - 8) % 128, Nat.mod_lt _ (by omega)⟩ : Fin 128) = ⟨g.val * 64 + (d.val - 8), by omega⟩ := Fin.ext (by simp only; omega)
      obtain ⟨q1, q2⟩ := q.second (tok b i r) g d h h'
      exact congrArg₂ (· + ·) (congrArg (_ * ·) q1) (congrArg₂ (· * ·) (congrArg (fun z => x (ix2 r z)) e) q2)
    · rw [dif_neg h']
      obtain ⟨q1, q2⟩ := q.rest (tok b i r) g d h h'
      refine (congrArg₂ (· + ·) (congrArg (_ * ·) q1) (congrArg (_ * ·) q2)).trans ?_
      rw [mul_one, mul_zero, add_zero]

/-- The stacked keys, turned. -/
abbrev keyStack (b : Fin 2) (i : Fin 64) : FVec Ideal S256x128 .f32 :=
  k0_pay6 (k0_pay3 (rows C b i) (rows S b i) (cols P 6656 (by omega) b i)) (rows S b (prev i)) (k0_pay4 (cols P 6656 (by omega) b (prev i)))
    (k0_pay5 (cols P 6656 (by omega) b (prev i)) (rows C b (prev i)))

theorem keyStack_at (q : Tables C S) (b : Fin 2) (i : Fin 64) (j : Fin 256) (g : Fin 2) (x : Fin 64) :
    keyStack P C S b i (ix2 j ⟨g.val * 64 + x.val, by omega⟩) = keyRow P C S b i j g x := by
  unfold keyStack keyRow keyAt
  rw [turned_keys, both_at]
  by_cases hj : j.val < 128
  · rw [dif_pos hj, dif_pos hj]
    exact rope_turn C S q b (prev i) _ _ g x
  · rw [dif_neg hj, dif_neg hj]
    exact rope_turn C S q b i _ _ g x

/-- The stacked values. -/
abbrev valStack (b : Fin 2) (i : Fin 64) : FVec Ideal S256x128 .f32 := k0_pay7 (cols P 6784 (by omega) b (prev i)) (cols P 6784 (by omega) b i)

theorem valStack_at (b : Fin 2) (i : Fin 64) (j : Fin 256) (g : Fin 2) (x : Fin 64) :
    valStack P b i (ix2 j ⟨g.val * 64 + x.val, by omega⟩) = valRow P b i j g x := by
  unfold valStack valRow
  rw [both_at]
  by_cases hj : j.val < 128
  · rw [dif_pos hj, dif_pos hj]; rfl
  · rw [dif_neg hj, dif_neg hj]; rfl

/-- The first group of keys. -/
theorem keys0_eq (q : Tables C S) (b : Fin 2) (i : Fin 64) (j : Fin 256) (e : Fin 2) (x : Fin 64) :
    k0_pay11 (k0_pay3 (rows C b i) (rows S b i) (cols P 6656 (by omega) b i)) (rows S b (prev i)) (k0_pay4 (cols P 6656 (by omega) b (prev i)))
        (k0_pay5 (cols P 6656 (by omega) b (prev i)) (rows C b (prev i))) (ix2 j ⟨e.val * 64 + x.val, by omega⟩) = keyRow P C S b i j 0 x := by
  rw [keys0_at]
  exact (congrArg (fun z => keyStack P C S b i (ix2 j z)) (Fin.ext (by simp))).trans (keyStack_at P C S q b i j 0 x)

/-- The first group of values. -/
theorem values0_eq (b : Fin 2) (i : Fin 64) (j : Fin 256) (e : Fin 2) (x : Fin 64) :
    k0_pay13 (cols P 6784 (by omega) b (prev i)) (cols P 6784 (by omega) b i) (ix2 j ⟨e.val * 64 + x.val, by omega⟩) = valRow P b i j 0 x := by
  rw [values0_at]
  exact (congrArg (fun z => valStack P b i (ix2 j z)) (Fin.ext (by simp))).trans (valStack_at P b i j 0 x)

/-- The second group of keys. -/
theorem keys1_eq (q : Tables C S) (b : Fin 2) (i : Fin 64) (j : Fin 256) (e : Fin 2) (x : Fin 64) :
    k0_pay12 (k0_pay3 (rows C b i) (rows S b i) (cols P 6656 (by omega) b i)) (rows S b (prev i)) (k0_pay4 (cols P 6656 (by omega) b (prev i)))
        (k0_pay5 (cols P 6656 (by omega) b (prev i)) (rows C b (prev i))) (ix2 j ⟨e.val * 64 + x.val, by omega⟩) = keyRow P C S b i j 1 x := by
  rw [keys1_at]
  exact (congrArg (fun z => keyStack P C S b i (ix2 j z)) (Fin.ext (by simp))).trans (keyStack_at P C S q b i j 1 x)

/-- The second group of values. -/
theorem values1_eq (b : Fin 2) (i : Fin 64) (j : Fin 256) (e : Fin 2) (x : Fin 64) :
    k0_pay14 (cols P 6784 (by omega) b (prev i)) (cols P 6784 (by omega) b i) (ix2 j ⟨e.val * 64 + x.val, by omega⟩) = valRow P b i j 1 x := by
  rw [values1_at]
  exact (congrArg (fun z => valStack P b i (ix2 j z)) (Fin.ext (by simp))).trans (valStack_at P b i j 1 x)

/-- A store's entry over the rows of its scores and of its values. -/
theorem pair_at (v : FVec Ideal S256x128 .f32) (L : FVec Ideal S256x256 .f32) (a0 a1 : Elt Ideal .f32) (ρ w : Fin 256 → EReal) (r : Fin 128) (e : Fin 2) (d : Fin 64)
    (hrow : ∀ (R : Fin 256) (_ : R.val = e.val * 128 + r.val) (j : Fin 256), L (ix2 R j) = ρ j) (hv : ∀ j : Fin 256, v (ix2 j ⟨e.val * 64 + d.val, by omega⟩) = w j) :
    k0_pay1 v (k0_pay18 lanes) L (k0_pay37 stack a0 a1) (ix2 r ⟨e.val * 64 + d.val, by omega⟩) = headRow ρ (if e.val = 0 then a0 else a1 : EReal) w := by
  rw [pay1_at, lane_at, sel]
  by_cases he : e.val = 0
  · rw [if_pos (by show e.val * 64 + d.val < 64; omega), if_pos he, sink_at, if_pos r.isLt]
    exact congrArg₂ (fun L w => headRow L a0 w) (funext fun j => hrow _ (by show r.val = _; omega) j) (funext hv)
  · rw [if_neg (by show ¬ e.val * 64 + d.val < 64; omega), if_neg he, sink_at, if_neg (by simp)]
    exact congrArg₂ (fun L w => headRow L a1 w) (funext fun j => hrow _ (by show 128 + r.val = _; omega) j) (funext hv)

/-- A store over a pair of heads: one row of each head. -/
theorem store_at (q : Tables C S) (b : Fin 2) (i : Fin 64) (p : Fin 4) (g : Fin 2) (k v : FVec Ideal S256x128 .f32)
    (hk : ∀ (j : Fin 256) (e : Fin 2) (x : Fin 64), k (ix2 j ⟨e.val * 64 + x.val, by omega⟩) = keyRow P C S b i j g x)
    (hv : ∀ (j : Fin 256) (e : Fin 2) (x : Fin 64), v (ix2 j ⟨e.val * 64 + x.val, by omega⟩) = valRow P b i j g x)
    (a0 a1 : Elt Ideal .f32) (r : Fin 128) (e : Fin 2) (d : Fin 64) :
    k0_pay1 v (k0_pay18 lanes) (k0_pay25 k0_pay2 (rows C b i) (rows S b i) k (k0_pay17 (BitVec.ofNat 32 i.val) k0_pay15 k0_pay16) (k0_pay18 lanes)
        (cols P (5632 + p.val * 128) (by omega) b i)) (k0_pay37 stack a0 a1) (ix2 r ⟨e.val * 64 + d.val, by omega⟩)
      = headRow (row P C S b i r ⟨p.val * 2 + e.val, by omega⟩ g) (if e.val = 0 then a0 else a1 : EReal) (fun j => valRow P b i j g d) := by
  have hrow : ∀ (R : Fin 256) (_ : R.val = e.val * 128 + r.val) (j : Fin 256),
      k0_pay25 k0_pay2 (rows C b i) (rows S b i) k (k0_pay17 (BitVec.ofNat 32 i.val) k0_pay15 k0_pay16) (k0_pay18 lanes)
        (cols P (5632 + p.val * 128) (by omega) b i) (ix2 R j) = row P C S b i r ⟨p.val * 2 + e.val, by omega⟩ g j := by
    intro R hR j
    have eR : R = ⟨e.val * 128 + r.val, by omega⟩ := Fin.ext hR
    rw [eR, logits_at]
    unfold row
    refine if_congr Iff.rfl (Finset.sum_congr rfl fun x _ => ?_) rfl
    rw [hk, rope_turn C S q]
    unfold queryAt
    refine congrArg (· * _) (congrArg (· * _) (congrArg (fun z => turn z _ _ x) (funext fun y => ?_)))
    exact congrArg (fun z => P (ix2 (tok b i r) z)) (Fin.ext (by show 5632 + p.val * 128 + (e.val * 64 + y.val) = 5632 + ((p.val * 2 + e.val) * 64 + y.val); omega))
  exact pair_at v _ a0 a1 _ _ r e d hrow fun j => hv j e d

/-- A store over a pair of heads: two entries of the reference. -/
theorem store_ref (q : Tables C S) (ok : Good P C S) (hs : ∀ c : Fin 8, Finite (s (ix1 c))) (b : Fin 2) (i : Fin 64) (p : Fin 4) (g : Fin 2) (hg : g.val = p.val / 2) (k v : FVec Ideal S256x128 .f32)
    (hk : ∀ (j : Fin 256) (e : Fin 2) (x : Fin 64), k (ix2 j ⟨e.val * 64 + x.val, by omega⟩) = keyRow P C S b i j g x)
    (hv : ∀ (j : Fin 256) (e : Fin 2) (x : Fin 64), v (ix2 j ⟨e.val * 64 + x.val, by omega⟩) = valRow P b i j g x)
    (r l : Fin 128) :
    k0_pay1 v (k0_pay18 lanes) (k0_pay25 k0_pay2 (rows C b i) (rows S b i) k (k0_pay17 (BitVec.ofNat 32 i.val) k0_pay15 k0_pay16) (k0_pay18 lanes)
        (cols P (5632 + p.val * 128) (by omega) b i)) (k0_pay37 stack (s (ix1 ⟨p.val * 2, by omega⟩)) (s (ix1 ⟨p.val * 2 + 1, by omega⟩))) (ix2 r l)
      = REF P C S s (ix2 (tok b i r) ⟨p.val * 128 + l.val, by omega⟩) := by
  obtain ⟨e, d, rfl⟩ : ∃ (e : Fin 2) (d : Fin 64), l = ⟨e.val * 64 + d.val, by omega⟩ :=
    ⟨⟨l.val / 64, by omega⟩, ⟨l.val % 64, by omega⟩, Fin.ext (by simp only; omega)⟩
  rw [store_at P C S q b i p g k v hk hv]
  have hc : p.val * 2 + e.val < 8 := by omega
  obtain ⟨h, hh⟩ : ∃ h : Fin 4, p.val * 2 + e.val = g.val * 4 + h.val := ⟨⟨(p.val * 2 + e.val) % 4, by omega⟩, by simp only; omega⟩
  have hc' : (⟨p.val * 2 + e.val, hc⟩ : Fin 8) = ⟨g.val * 4 + h.val, by omega⟩ := Fin.ext hh
  have hsink : (if e.val = 0 then s (ix1 ⟨p.val * 2, by omega⟩) else s (ix1 ⟨p.val * 2 + 1, by omega⟩) : EReal) = s (ix1 ⟨g.val * 4 + h.val, by omega⟩) := by
    split
    · exact congrArg (fun z => s (ix1 z)) (Fin.ext (by simp only; omega))
    · exact congrArg (fun z => s (ix1 z)) (Fin.ext (by simp only; omega))
  rw [hsink, hc', head_ref P C S s b i r g h d (fun j => row_ne_top P C S ok b i r _ g j) (hs _)]
  exact congrArg (fun z => REF P C S s (ix2 (tok b i r) z)) (Fin.ext (by simp only; omega))

end Cert.SwaIdeal.RefValue
-- ==== Proof.SwaBlocks.lean ====
/-
# The blocks of the banded attention
-/
module

public import proofs.«01_k».proof.Proof.Gen.SwaIdeal.Frame
public import Idealize.ShloMosaic.Lib.Pipeline.ValueKit
public import Idealize.ShloMosaic.Lib.Pointwise
public import proofs.«01_k».proof.Proof.SwaStore

@[expose] public section

set_option maxRecDepth 16384

noncomputable section

namespace Cert.SwaIdeal.RefValue

open Cert.SwaIdeal Cert.SwaIdeal.Gen Idealize.ShloMosaic Idealize.ShloMosaic.TcCoe Idealize.SL.Sem

open Cert.SwaRefIdeal.RefValue (tok prev REF)

variable (m : (ℓ : Loc nD τ sig) → Buf (Elt Ideal) ℓ)

/-- The block that each window stages at a grid point. -/
theorem idx : ∀ t : Fin cfg0.N, win0_0.index t = ![0] ∧ win0_1.index t = ![t.val, 11] ∧ win0_2.index t = ![t.val, 52]
    ∧ win0_3.index t = ![t.val / 64 * 64 + (t.val % 64 - 1), 52] ∧ win0_4.index t = ![t.val, 53] ∧ win0_5.index t = ![t.val / 64 * 64 + (t.val % 64 - 1), 53]
    ∧ win0_6.index t = ![t.val, 0] ∧ win0_7.index t = ![t.val, 0] ∧ win0_8.index t = ![t.val / 64 * 64 + (t.val % 64 - 1), 0]
    ∧ win0_9.index t = ![t.val / 64 * 64 + (t.val % 64 - 1), 0] ∧ win0_10.index t = ![t.val, 0] :=
  (by decide +kernel : ∀ t : Fin grid0.N, _)

/-- The batch of a grid point. -/
def batch (t : Fin cfg0.N) : Fin 2 := ⟨t.val / 64, by have := lt_of_lt_of_eq t.isLt N_0; omega⟩

/-- The block of a grid point. -/
def block (t : Fin cfg0.N) : Fin 64 := ⟨t.val % 64, by omega⟩

/-- The grid's second coordinate is the block. -/
theorem coord (t : Fin cfg0.N) : ((grid0.coords t) 1).val = (block t).val :=
  (by decide +kernel : ∀ t : Fin grid0.N, ((grid0.coords t) 1).val = t.val % 64) t

/-- The arguments, by what they are. -/
abbrev aP (c : Dev nD) : FVec Ideal S16384x7040 .f32 := m ((c : Thread nD τ).loc main_arg0)
abbrev aC (c : Dev nD) : FVec Ideal S16384x128 .f32 := m ((c : Thread nD τ).loc main_arg1)
abbrev aS (c : Dev nD) : FVec Ideal S16384x128 .f32 := m ((c : Thread nD τ).loc main_arg2)
abbrev as' (c : Dev nD) : FVec Ideal S8 .f32 := m ((c : Thread nD τ).loc main_arg3)

/-- The queries' block. -/
theorem q_blk (c : Dev nD) (t : Fin cfg0.N) :
    X0_1 m c t = fun y : S128x512.Idx => aP m c (ix2 (tok (batch t) (block t) (y 0)) ⟨5632 + (y 1).val, by have h : (y 1).val < 512 := (y 1).isLt; omega⟩) := by
  funext j
  unfold X0_1 Pipeline.Window.fill
  rw [dif_pos (moved0_1 t _)]
  blk_point [iblk, idx t, V, tok, batch, block]

theorem sinks_blk (c : Dev nD) (t : Fin cfg0.N) (k : Fin 8) : iblk m c 0 t (ix1 k) = as' m c (ix1 k) := by
  blk_point [iblk, idx t, V]

theorem k_blk (c : Dev nD) (t : Fin cfg0.N) : iblk m c 2 t = cols (aP m c) 6656 (by omega) (batch t) (block t) := by
  funext j
  blk_point [iblk, idx t, V, tok, batch, block]

theorem kp_blk (c : Dev nD) (t : Fin cfg0.N) : iblk m c 3 t = cols (aP m c) 6656 (by omega) (batch t) (prev (block t)) := by
  funext j
  blk_point [iblk, idx t, V, tok, batch, block, prev]

theorem v_blk (c : Dev nD) (t : Fin cfg0.N) : iblk m c 4 t = cols (aP m c) 6784 (by omega) (batch t) (block t) := by
  funext j
  blk_point [iblk, idx t, V, tok, batch, block]

theorem vp_blk (c : Dev nD) (t : Fin cfg0.N) : iblk m c 5 t = cols (aP m c) 6784 (by omega) (batch t) (prev (block t)) := by
  funext j
  blk_point [iblk, idx t, V, tok, batch, block, prev]

theorem c_blk (c : Dev nD) (t : Fin cfg0.N) : iblk m c 6 t = rows (aC m c) (batch t) (block t) := by
  funext j
  blk_point [iblk, idx t, V, tok, batch, block]

theorem s_blk (c : Dev nD) (t : Fin cfg0.N) : iblk m c 7 t = rows (aS m c) (batch t) (block t) := by
  funext j
  blk_point [iblk, idx t, V, tok, batch, block]

theorem cp_blk (c : Dev nD) (t : Fin cfg0.N) : iblk m c 8 t = rows (aC m c) (batch t) (prev (block t)) := by
  funext j
  blk_point [iblk, idx t, V, tok, batch, block, prev]

theorem sp_blk (c : Dev nD) (t : Fin cfg0.N) : iblk m c 9 t = rows (aS m c) (batch t) (prev (block t)) := by
  funext j
  blk_point [iblk, idx t, V, tok, batch, block, prev]

/-- The array index of an index of a grid point's block. -/
theorem emb_at (t : Fin cfg0.N) (y : S128x512.Idx) (r : Fin 128) (p : Fin 4) (l : Fin 128) (h0 : (y 0).val = r.val) (h1 : (y 1).val = p.val * 128 + l.val) :
    ((cfg0.win 10).blk t).view.emb y = ix2 (tok (batch t) (block t) r) ⟨p.val * 128 + l.val, by omega⟩ := by
  blk_ext
  · rw [(idx t).2.2.2.2.2.2.2.2.2.2]; simp [tok, batch, block]; omega
  · rw [(idx t).2.2.2.2.2.2.2.2.2.2]; simp [tok, batch, block]; omega

end Cert.SwaIdeal.RefValue
-- ==== Proof.SwaPre.lean ====
/-
# What the precondition says of the tables and the inputs
-/
module

public import proofs.«01_k».proof.Proof.Gen.Pre_finite_with_tables
public import Idealize.ShloMosaic.Lib.Pointwise
public import proofs.«01_k».proof.Proof.SwaMatch

@[expose] public section

set_option maxRecDepth 16384

noncomputable section

namespace Cert.SwaPre

open Idealize.ShloMosaic Idealize.ShloMosaic.TcCoe Idealize.SL.Sem

open Cert.Pre_finite_with_tables (fn fn_part1 fn_part2)
open Cert.SwaSoftmax (Finite finite_of_abs infinity)
open Cert.SwaRefIdeal.RefValue (Good Tables)

/-- Both of two bits. -/
theorem and_true {p : BitVec 1} {q : Bool} (h : IntOp.andi p (BitVec.ofBool q) = 1#1) : p = 1#1 ∧ q = true := by
  revert p q
  decide

theorem and_two {p q : Bool} (h : IntOp.andi (BitVec.ofBool p) (BitVec.ofBool q) = 1#1) : p = true ∧ q = true := by
  revert p q
  decide

theorem finite_of {x : EReal} (h : decide (FloatOps.absf (F := Ideal) (φ := .f32) x < Ideal.ofBits FTy.f32 0x7F800000#32) = true) : Finite x := by
  rw [infinity] at h
  exact finite_of_abs (of_decide_eq_true h)

section
variable {P : FVec Ideal ⟨2, ![16384, 7040]⟩ .f32} {C S : FVec Ideal ⟨2, ![16384, 128]⟩ .f32} {s : FVec Ideal ⟨1, ![8]⟩ .f32}

/-- The precondition at an index. -/
theorem pre_at (h : fn P C S s = fun _ => 1#1) (t : Fin 16384) (l : Fin 128) :
    (C (ix2 t l) = if h : l.val < 8 then C (ix2 t l)
        else if h : l.val - 8 < 8 then C (ix2 t ⟨l.val - 8, by omega⟩)
        else if h : l.val - 8 - 8 < 48 then 1
        else if h : l.val - 8 - 8 - 48 < 8 then C (ix2 t ⟨l.val - 8 - 8 - 48, by omega⟩)
        else if h : l.val - 8 - 8 - 48 - 8 < 8 then C (ix2 t ⟨l.val - 8 - 8 - 48 - 8, by omega⟩) else 1)
    ∧ (S (ix2 t l) = if h : l.val < 8 then - S (ix2 t ⟨8 + l.val, by omega⟩)
        else if h : l.val - 8 < 8 then S (ix2 t ⟨8 + (l.val - 8), by omega⟩)
        else if h : l.val - 8 - 8 < 48 then 0
        else if h : l.val - 8 - 8 - 48 < 8 then - S (ix2 t ⟨8 + (l.val - 8 - 8 - 48), by omega⟩)
        else if h : l.val - 8 - 8 - 48 - 8 < 8 then S (ix2 t ⟨8 + (l.val - 8 - 8 - 48 - 8), by omega⟩) else 0)
    ∧ Finite (C (ix2 t l)) ∧ Finite (S (ix2 t l)) ∧ Finite (s (ix1 ⟨l.val % 8, by omega⟩))
    ∧ Finite (P (ix2 t ⟨5632 + l.val, by omega⟩)) ∧ Finite (P (ix2 t ⟨5760 + l.val, by omega⟩)) ∧ Finite (P (ix2 t ⟨5888 + l.val, by omega⟩))
    ∧ Finite (P (ix2 t ⟨6016 + l.val, by omega⟩)) ∧ Finite (P (ix2 t ⟨6656 + l.val, by omega⟩)) := by
  have e : fn P C S s (ix2 t l) = 1#1 := congrFun h (ix2 t l)
  revert e
  pointwise [fn, fn_part1, fn_part2]
  intro e
  obtain ⟨e, e9⟩ := and_true e
  obtain ⟨e, e8⟩ := and_true e
  obtain ⟨e, e7⟩ := and_true e
  obtain ⟨e, e6⟩ := and_true e
  obtain ⟨e, e5⟩ := and_true e
  obtain ⟨e, e4⟩ := and_true e
  obtain ⟨e, e3⟩ := and_true e
  obtain ⟨e, e2⟩ := and_true e
  obtain ⟨e0, e1⟩ := and_two e
  exact ⟨of_decide_eq_true e0, of_decide_eq_true e1, finite_of e2, finite_of e3, finite_of e4, finite_of e5, finite_of e6, finite_of e7, finite_of e8, finite_of e9⟩

theorem good (h : fn P C S s = fun _ => 1#1) : Good P C S where
  query t k := by
    have q := pre_at h t ⟨k.val % 128, by omega⟩
    have k4 := k.isLt
    by_cases k1 : k.val < 128
    · have e : 5632 + k.val % 128 = 5632 + k.val := by omega
      simpa only [e] using q.2.2.2.2.2.1
    by_cases k2 : k.val < 256
    · have e : 5760 + k.val % 128 = 5632 + k.val := by omega
      simpa only [e] using q.2.2.2.2.2.2.1
    by_cases k3 : k.val < 384
    · have e : 5888 + k.val % 128 = 5632 + k.val := by omega
      simpa only [e] using q.2.2.2.2.2.2.2.1
    · have e : 6016 + k.val % 128 = 5632 + k.val := by omega
      simpa only [e] using q.2.2.2.2.2.2.2.2.1
  key t k := (pre_at h t k).2.2.2.2.2.2.2.2.2
  cosine t l := (pre_at h t l).2.2.1
  sine t l := (pre_at h t l).2.2.2.1

theorem sinks (h : fn P C S s = fun _ => 1#1) (c : Fin 8) : Finite (s (ix1 c)) := by
  have q := (pre_at h 0 ⟨c.val, by omega⟩).2.2.2.2.1
  have e : c.val % 8 = c.val := by omega
  simpa only [e] using q

theorem tables (h : fn P C S s = fun _ => 1#1) : Tables C S where
  first t g d hd := by
    match g with
    | 0 =>
      obtain ⟨q1, q2, -⟩ := pre_at h t ⟨(0 : Fin 2).val * 64 + d.val, by omega⟩
      have e : (0 : Fin 2).val * 64 + d.val = d.val := by simp
      simp only [e] at q1 q2 ⊢
      rw [dif_pos hd] at q2
      exact ⟨trivial, q2⟩
    | 1 =>
      obtain ⟨q1, q2, -⟩ := pre_at h t ⟨(1 : Fin 2).val * 64 + d.val, by omega⟩
      have o : (1 : Fin 2).val = 1 := rfl
      have e : 1 * 64 + d.val - 8 - 8 - 48 = d.val := by omega
      simp only [o, e] at q1 q2 ⊢
      rw [dif_neg (by omega), dif_neg (by omega), dif_neg (by omega), dif_pos hd] at q1 q2
      exact ⟨q1, q2⟩
  second t g d hd hd' := by
    match g with
    | 0 =>
      obtain ⟨q1, q2, -⟩ := pre_at h t ⟨(0 : Fin 2).val * 64 + d.val, by omega⟩
      have e : (0 : Fin 2).val * 64 + d.val = d.val := by simp
      simp only [e] at q1 q2 ⊢
      rw [dif_neg hd, dif_pos hd'] at q1 q2
      exact ⟨q1, q2⟩
    | 1 =>
      obtain ⟨q1, q2, -⟩ := pre_at h t ⟨(1 : Fin 2).val * 64 + d.val, by omega⟩
      have o : (1 : Fin 2).val = 1 := rfl
      have e : 1 * 64 + d.val - 8 - 8 - 48 = d.val := by omega
      simp only [o, e] at q1 q2 ⊢
      rw [dif_neg (by omega), dif_neg (by omega), dif_neg (by omega), dif_neg hd, dif_pos hd'] at q1 q2
      exact ⟨q1, q2⟩
  rest t g d hd hd' := by
    match g with
    | 0 =>
      obtain ⟨q1, q2, -⟩ := pre_at h t ⟨(0 : Fin 2).val * 64 + d.val, by omega⟩
      have e : (0 : Fin 2).val * 64 + d.val = d.val := by simp
      simp only [e] at q1 q2 ⊢
      rw [dif_neg hd, dif_neg hd', dif_pos (by omega)] at q1 q2
      exact ⟨q1, q2⟩
    | 1 =>
      obtain ⟨q1, q2, -⟩ := pre_at h t ⟨(1 : Fin 2).val * 64 + d.val, by omega⟩
      have o : (1 : Fin 2).val = 1 := rfl
      have e : 1 * 64 + d.val - 8 - 8 - 48 = d.val := by omega
      simp only [o, e] at q1 q2 ⊢
      rw [dif_neg (by omega), dif_neg (by omega), dif_neg (by omega), dif_neg hd, dif_neg hd'] at q1 q2
      exact ⟨q1, q2⟩

end

end Cert.SwaPre
-- ==== Proof.SwaValue.lean ====
/-
# The banded attention ends with the reference's array
-/
module

public import proofs.«01_k».proof.Proof.SwaBlocks
public import proofs.«01_k».proof.Proof.SwaPre

@[expose] public section

set_option maxRecDepth 16384

noncomputable section

namespace Cert.SwaIdeal.RefValue

open Cert.SwaIdeal Cert.SwaIdeal.Gen Idealize.ShloMosaic Idealize.ShloMosaic.TcCoe Idealize.SL.Sem

open Cert.SwaRefIdeal.RefValue (tok prev REF Good Tables)
open Cert.SwaSoftmax (Finite)

variable (m : (ℓ : Loc nD τ sig) → Buf (Elt Ideal) ℓ)

/-- A head pair's queries. -/
theorem q_ld0 (c : Dev nD) (t : Fin cfg0.N) :
    (View.ld (fun y : S128x512.Idx => aP m c (ix2 (tok (batch t) (block t) (y 0)) ⟨5632 + (y 1).val, by have h : (y 1).val < 512 := (y 1).isLt; omega⟩))
        (Rect.unit ![0, 0] ![128, 128] inb_S128x512_S128x128_0_0) : Vec Ideal S128x128 .f32)
      = cols (aP m c) (5632 + (0 : Fin 4).val * 128) (by decide) (batch t) (block t) := by
  funext j
  refine congrArg (aP m c) (congrArg₂ ix2 (congrArg (tok (batch t) (block t)) (Fin.ext ?_)) (Fin.ext ?_))
  · simp
  · simp <;> omega

/-- A head pair's queries. -/
theorem q_ld1 (c : Dev nD) (t : Fin cfg0.N) :
    (View.ld (fun y : S128x512.Idx => aP m c (ix2 (tok (batch t) (block t) (y 0)) ⟨5632 + (y 1).val, by have h : (y 1).val < 512 := (y 1).isLt; omega⟩))
        (Rect.unit ![0, 128] ![128, 128] inb_S128x512_S128x128_0_128) : Vec Ideal S128x128 .f32)
      = cols (aP m c) (5632 + (1 : Fin 4).val * 128) (by decide) (batch t) (block t) := by
  funext j
  refine congrArg (aP m c) (congrArg₂ ix2 (congrArg (tok (batch t) (block t)) (Fin.ext ?_)) (Fin.ext ?_))
  · simp
  · simp <;> omega

/-- A head pair's queries. -/
theorem q_ld2 (c : Dev nD) (t : Fin cfg0.N) :
    (View.ld (fun y : S128x512.Idx => aP m c (ix2 (tok (batch t) (block t) (y 0)) ⟨5632 + (y 1).val, by have h : (y 1).val < 512 := (y 1).isLt; omega⟩))
        (Rect.unit ![0, 256] ![128, 128] inb_S128x512_S128x128_0_256) : Vec Ideal S128x128 .f32)
      = cols (aP m c) (5632 + (2 : Fin 4).val * 128) (by decide) (batch t) (block t) := by
  funext j
  refine congrArg (aP m c) (congrArg₂ ix2 (congrArg (tok (batch t) (block t)) (Fin.ext ?_)) (Fin.ext ?_))
  · simp
  · simp <;> omega

/-- A head pair's queries. -/
theorem q_ld3 (c : Dev nD) (t : Fin cfg0.N) :
    (View.ld (fun y : S128x512.Idx => aP m c (ix2 (tok (batch t) (block t) (y 0)) ⟨5632 + (y 1).val, by have h : (y 1).val < 512 := (y 1).isLt; omega⟩))
        (Rect.unit ![0, 384] ![128, 128] inb_S128x512_S128x128_0_384) : Vec Ideal S128x128 .f32)
      = cols (aP m c) (5632 + (3 : Fin 4).val * 128) (by decide) (batch t) (block t) := by
  funext j
  refine congrArg (aP m c) (congrArg₂ ix2 (congrArg (tok (batch t) (block t)) (Fin.ext ?_)) (Fin.ext ?_))
  · simp
  · simp <;> omega

theorem sink_ld0 (c : Dev nD) (t : Fin cfg0.N) (h : 0 < (Rect.unit (s := S8) ![0] ![1] inb_S8_S1_0).shape.numel) :
    View.ld (iblk m c 0 t) (Rect.unit ![0] ![1] inb_S8_S1_0) (Shape.Idx.first h) = as' m c (ix1 0) := by
  refine Eq.trans (congrArg (iblk m c 0 t) ?_) (sinks_blk m c t 0)
  funext a
  exact Fin.ext (by fin_cases a; simp)

theorem sink_ld1 (c : Dev nD) (t : Fin cfg0.N) (h : 0 < (Rect.unit (s := S8) ![1] ![1] inb_S8_S1_1).shape.numel) :
    View.ld (iblk m c 0 t) (Rect.unit ![1] ![1] inb_S8_S1_1) (Shape.Idx.first h) = as' m c (ix1 1) := by
  refine Eq.trans (congrArg (iblk m c 0 t) ?_) (sinks_blk m c t 1)
  funext a
  exact Fin.ext (by fin_cases a; simp)

theorem sink_ld2 (c : Dev nD) (t : Fin cfg0.N) (h : 0 < (Rect.unit (s := S8) ![2] ![1] inb_S8_S1_2).shape.numel) :
    View.ld (iblk m c 0 t) (Rect.unit ![2] ![1] inb_S8_S1_2) (Shape.Idx.first h) = as' m c (ix1 2) := by
  refine Eq.trans (congrArg (iblk m c 0 t) ?_) (sinks_blk m c t 2)
  funext a
  exact Fin.ext (by fin_cases a; simp)

theorem sink_ld3 (c : Dev nD) (t : Fin cfg0.N) (h : 0 < (Rect.unit (s := S8) ![3] ![1] inb_S8_S1_3).shape.numel) :
    View.ld (iblk m c 0 t) (Rect.unit ![3] ![1] inb_S8_S1_3) (Shape.Idx.first h) = as' m c (ix1 3) := by
  refine Eq.trans (congrArg (iblk m c 0 t) ?_) (sinks_blk m c t 3)
  funext a
  exact Fin.ext (by fin_cases a; simp)

theorem sink_ld4 (c : Dev nD) (t : Fin cfg0.N) (h : 0 < (Rect.unit (s := S8) ![4] ![1] inb_S8_S1_4).shape.numel) :
    View.ld (iblk m c 0 t) (Rect.unit ![4] ![1] inb_S8_S1_4) (Shape.Idx.first h) = as' m c (ix1 4) := by
  refine Eq.trans (congrArg (iblk m c 0 t) ?_) (sinks_blk m c t 4)
  funext a
  exact Fin.ext (by fin_cases a; simp)

theorem sink_ld5 (c : Dev nD) (t : Fin cfg0.N) (h : 0 < (Rect.unit (s := S8) ![5] ![1] inb_S8_S1_5).shape.numel) :
    View.ld (iblk m c 0 t) (Rect.unit ![5] ![1] inb_S8_S1_5) (Shape.Idx.first h) = as' m c (ix1 5) := by
  refine Eq.trans (congrArg (iblk m c 0 t) ?_) (sinks_blk m c t 5)
  funext a
  exact Fin.ext (by fin_cases a; simp)

theorem sink_ld6 (c : Dev nD) (t : Fin cfg0.N) (h : 0 < (Rect.unit (s := S8) ![6] ![1] inb_S8_S1_6).shape.numel) :
    View.ld (iblk m c 0 t) (Rect.unit ![6] ![1] inb_S8_S1_6) (Shape.Idx.first h) = as' m c (ix1 6) := by
  refine Eq.trans (congrArg (iblk m c 0 t) ?_) (sinks_blk m c t 6)
  funext a
  exact Fin.ext (by fin_cases a; simp)

theorem sink_ld7 (c : Dev nD) (t : Fin cfg0.N) (h : 0 < (Rect.unit (s := S8) ![7] ![1] inb_S8_S1_7).shape.numel) :
    View.ld (iblk m c 0 t) (Rect.unit ![7] ![1] inb_S8_S1_7) (Shape.Idx.first h) = as' m c (ix1 7) := by
  refine Eq.trans (congrArg (iblk m c 0 t) ?_) (sinks_blk m c t 7)
  funext a
  exact Fin.ext (by fin_cases a; simp)

/-- An index by its coordinates. -/
theorem eta (x : S128x128.Idx) : x = ix2 (x 0) (x 1) := by
  funext a
  match a with
  | 0 => rfl
  | 1 => rfl

/-- A grid point's stores, at an index of its block. -/
theorem point (c : Dev nD) (q : Tables (aC m c) (aS m c)) (ok : Good (aP m c) (aC m c) (aS m c)) (hs : ∀ k : Fin 8, Finite (as' m c (ix1 k))) (t : Fin cfg0.N) (y : S128x512.Idx) :
    outsAt0 m c t y = REF (aP m c) (aC m c) (aS m c) (as' m c) (((cfg0.win 10).blk t).view.emb y) := by
  unfold outsAt0
  rw [q_blk m c t, k_blk m c t, kp_blk m c t, v_blk m c t, vp_blk m c t, c_blk m c t, s_blk m c t, cp_blk m c t, sp_blk m c t]
  frame_out
  simp only [coord t, q_ld0 m c t, q_ld1 m c t, q_ld2 m c t, q_ld3 m c t, sink_ld0 m c t, sink_ld1 m c t, sink_ld2 m c t, sink_ld3 m c t, sink_ld4 m c t, sink_ld5 m c t, sink_ld6 m c t, sink_ld7 m c t]
  canon_tiles x h
  · rw [logits3]
    refine (congrArg _ (eta x)).trans (Eq.trans ?_ (congrArg (REF (aP m c) (aC m c) (aS m c) (as' m c)) (emb_at t y (x 0) 3 (x 1) h0 (h1.trans (by simp)))).symm)
    exact store_ref (aP m c) (aC m c) (aS m c) (as' m c) q ok hs (batch t) (block t) 3 1 (by decide) _ _
      (fun j e x => keys1_eq (aP m c) (aC m c) (aS m c) q (batch t) (block t) j e x) (fun j e x => values1_eq (aP m c) (batch t) (block t) j e x) (x 0) (x 1)
  · rw [store2]
    refine (congrArg _ (eta x)).trans (Eq.trans ?_ (congrArg (REF (aP m c) (aC m c) (aS m c) (as' m c)) (emb_at t y (x 0) 2 (x 1) h0 (h1.trans (by simp)))).symm)
    exact store_ref (aP m c) (aC m c) (aS m c) (as' m c) q ok hs (batch t) (block t) 2 1 (by decide) _ _
      (fun j e x => keys1_eq (aP m c) (aC m c) (aS m c) q (batch t) (block t) j e x) (fun j e x => values1_eq (aP m c) (batch t) (block t) j e x) (x 0) (x 1)
  · rw [store1]
    refine (congrArg _ (eta x)).trans (Eq.trans ?_ (congrArg (REF (aP m c) (aC m c) (aS m c) (as' m c)) (emb_at t y (x 0) 1 (x 1) h0 (h1.trans (by simp)))).symm)
    exact store_ref (aP m c) (aC m c) (aS m c) (as' m c) q ok hs (batch t) (block t) 1 0 (by decide) _ _
      (fun j e x => keys0_eq (aP m c) (aC m c) (aS m c) q (batch t) (block t) j e x) (fun j e x => values0_eq (aP m c) (batch t) (block t) j e x) (x 0) (x 1)
  · rw [store0]
    refine (congrArg _ (eta x)).trans (Eq.trans ?_ (congrArg (REF (aP m c) (aC m c) (aS m c) (as' m c)) (emb_at t y (x 0) 0 (x 1) h0 (h1.trans (by simp)))).symm)
    exact store_ref (aP m c) (aC m c) (aS m c) (as' m c) q ok hs (batch t) (block t) 0 0 (by decide) _ _
      (fun j e x => keys0_eq (aP m c) (aC m c) (aS m c) q (batch t) (block t) j e x) (fun j e x => values0_eq (aP m c) (batch t) (block t) j e x) (x 0) (x 1)

/-- The kernel's result array is the reference's term of the arguments, where these are what the precondition says. -/
theorem final (c : Dev nD) (hp : Cert.Pre_finite_with_tables.fn (aP m c) (aC m c) (aS m c) (as' m c) = fun _ => 1#1) :
    (dats m 0 c).arrAt 10 (cfgs 0).N = REF (m ((c : Thread nD τ).loc main_arg0)) (m ((c : Thread nD τ).loc main_arg1)) (m ((c : Thread nD τ).loc main_arg2)) (m ((c : Thread nD τ).loc main_arg3)) := by
  refine (dats m 0 c).arrAt_eq_of_covers 10 _ (by decide +kernel) fun t _ y => ?_
  blk_simp
  rw [after0_10]
  exact point m c (Cert.SwaPre.tables hp) (Cert.SwaPre.good hp) (Cert.SwaPre.sinks hp) t y

end Cert.SwaIdeal.RefValue
-- ==== Proof.FfnValue.lean ====
/-
# The feed-forward network: the kernel's array is the reference's

The grid walks the 32 blocks of rows and, within each, the two halves of the hidden columns. The first point of a row
block normalises the rows, keeps them, and starts the result from the residual; both points add their half of the
product with the down weights; the second applies the last normalisation.
-/
module

public import proofs.«01_k».proof.Proof.Gen.FfnIdeal.Value
public import proofs.«01_k».proof.Proof.Gen.FfnRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnRefIdeal.RefValue

open Cert.FfnRefIdeal Cert.FfnRefIdeal.Gen Idealize.ShloMosaic Idealize.ShloMosaic.TcCoe Idealize.SL.Sem

/-- The rows, each divided by the root of its mean square, times the gains. -/
def normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The hidden columns: the gates and, after them, the values they gate. -/
def gateUp (x : FVec Ideal S16384x1024 .f32) (g : FVec Ideal S1024 .f32) (w : FVec Ideal S1024x5632 .f32) : FVec Ideal S16384x5632 .f32 :=
  Host.dotGeneral dot_S16384x1024_S1024x5632_S16384x5632_1_0_0_1_n_n none (normed x g) w

/-- The gated values, from the hidden columns. -/
def act (H : FVec Ideal S16384x5632 .f32) : FVec Ideal S16384x2816 .f32 :=
  mulf (mulf (extractStridedSlice S16384x2816 ![0, 0] H slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] H slices_S16384x5632_S16384x2816_0_0)))))) (extractStridedSlice S16384x2816 ![0, 2816] H slices_S16384x5632_S16384x2816_0_2816)

/-- The residual plus the product of the gated values with the down weights. -/
def resid (x : FVec Ideal S16384x1024 .f32) (g : FVec Ideal S1024 .f32) (w : FVec Ideal S1024x5632 .f32) (d : FVec Ideal S2816x1024 .f32) : FVec Ideal S16384x1024 .f32 :=
  addf x (Host.dotGeneral dot_S16384x2816_S2816x1024_S16384x1024_1_0_0_1_n_n none (act (gateUp x g w)) d)

/-- The reference's result as a function of its arguments. -/
def REF (x : FVec Ideal S16384x1024 .f32) (g : FVec Ideal S1024 .f32) (w : FVec Ideal S1024x5632 .f32) (d : FVec Ideal S2816x1024 .f32) (f : FVec Ideal S1024 .f32) : FVec Ideal S16384x1024 .f32 :=
  normed (resid x g w d) f

end Cert.FfnRefIdeal.RefValue

namespace Cert.FfnIdeal.RefValue

open Cert.FfnIdeal Cert.FfnIdeal.Gen Idealize.ShloMosaic Idealize.ShloMosaic.TcCoe Idealize.SL.Sem
open Cert.FfnRefIdeal.RefValue (REF normed gateUp act resid)

variable (m : (ℓ : Loc nD τ sig) → Buf (Elt Ideal) ℓ)

/-- The block that each window stages at a grid point. -/
theorem idx : ∀ t : Fin cfg0.N, win0_0.index t = ![t.val / 2, 0] ∧ win0_1.index t = ![0, 0] ∧ win0_2.index t = ![0, t.val % 2]
    ∧ win0_3.index t = ![0, t.val % 2 + 2] ∧ win0_4.index t = ![t.val % 2, 0] ∧ win0_5.index t = ![0, 0] ∧ win0_6.index t = ![t.val / 2, 0] :=
  (by decide +kernel : ∀ t : Fin grid0.N, _)

/-- The arguments, by what they are. -/
abbrev ax (c : Dev nD) : FVec Ideal S16384x1024 .f32 := m ((c : Thread nD τ).loc main_arg0)
abbrev ag (c : Dev nD) : FVec Ideal S1024 .f32 := m ((c : Thread nD τ).loc main_arg1)
abbrev aw (c : Dev nD) : FVec Ideal S1024x5632 .f32 := m ((c : Thread nD τ).loc main_arg2)
abbrev ad (c : Dev nD) : FVec Ideal S2816x1024 .f32 := m ((c : Thread nD τ).loc main_arg3)
abbrev af (c : Dev nD) : FVec Ideal S1024 .f32 := m ((c : Thread nD τ).loc main_arg4)

/-- The first gains as the region finds them: one row. -/
theorem gain (c : Dev nD) : V m c main_v0 = fun j : S1x1024.Idx => m ((c : Thread nD τ).loc main_arg1) (ix1 (j 1)) := by
  entry_read
  funext j
  pointwise

/-- The hidden weights as the region finds them: the argument, cast, which changes nothing here. -/
theorem wgu (c : Dev nD) : V m c main_v1 = m ((c : Thread nD τ).loc main_arg2) := by
  entry_read
  rfl

/-- The down weights as the region finds them. -/
theorem wdown (c : Dev nD) : V m c main_v2 = m ((c : Thread nD τ).loc main_arg3) := by
  entry_read
  rfl

/-- The last gains as the region finds them: one row. -/
theorem lastGain (c : Dev nD) : V m c main_v3 = fun j : S1x1024.Idx => m ((c : Thread nD τ).loc main_arg4) (ix1 (j 1)) := by
  entry_read
  funext j
  pointwise

/-- The row of the arrays that a grid point's block holds at its row `r`. -/
def row (t : Fin cfg0.N) (r : Fin 512) : Fin 16384 :=
  ⟨512 * (t.val / 2) + r.val, by have := lt_of_lt_of_eq t.isLt N_0; omega⟩

/-- The hidden column that a grid point's half holds at its column `k`. -/
def col (t : Fin cfg0.N) (k : Fin 1408) : Fin 2816 :=
  ⟨1408 * (t.val % 2) + k.val, by omega⟩

/-- The rows that the kept buffer must hold at a grid point. -/
def kept (c : Dev nD) (t : Fin cfg0.N) : FVec Ideal S512x1024 .bf16 := fun j =>
  normed (ax m c) (ag m c) (ix2 (row t (j 0)) (j 1))

/-- The normalisation of the point's rows is the reference's at those rows. -/
theorem norm_point (c : Dev nD) (t : Fin cfg0.N) : k0_pay1 (F := Ideal) (iblk m c 0 t) (iblk m c 1 t) = kept m c t := by
  funext j
  pointwise [k0_pay1, kept, normed]
  blk_point [iblk, V, idx t, gain m c, row]

/-- A point's addition: its half of the product with the down weights, the rest left as it was. -/
theorem half_point (c : Dev nD) (t : Fin cfg0.N) (acc : FVec Ideal S512x1024 .f32) (j : S512x1024.Idx) :
    k0_pay2 (F := Ideal) (kept m c t) (iblk m c 2 t) (iblk m c 3 t) acc (iblk m c 4 t) j
      = acc j + ∑ k : Fin 1408, act (gateUp (ax m c) (ag m c) (aw m c)) (ix2 (row t (j 0)) (col t k)) * ad m c (ix2 (col t k) (j 1)) := by
  pointwise [k0_pay2, kept, act, gateUp, Ideal.logistic]
  blk_point [iblk, V, idx t, wgu m c, wdown m c, row, col]

/-- After every point the kept buffer holds the normalised rows of the point's row block. -/
theorem scratch (c : Dev nD) (t : Fin cfg0.N) (h0 : t.val % 2 = 0) (h1 : ¬t.val % 2 = 1) : (outsAt0 m c t.val t.isLt).2 = kept m c t := by
  rw [outsAt0_A m c t h0 h1]
  frame_out
  exact norm_point m c t

/-- After the first point of a row block the result's block holds the residual plus the first half of the product. -/
theorem first (c : Dev nD) (t : Fin cfg0.N) (h0 : t.val % 2 = 0) (h1 : ¬t.val % 2 = 1) :
    (outsAt0 m c t.val t.isLt).1 = fun j : S512x1024.Idx => ax m c (ix2 (row t (j 0)) (j 1))
      + ∑ k : Fin 1408, act (gateUp (ax m c) (ag m c) (aw m c)) (ix2 (row t (j 0)) (col t k)) * ad m c (ix2 (col t k) (j 1)) := by
  rw [outsAt0_A m c t h0 h1]
  frame_out
  rw [norm_point m c t]
  funext j
  refine (half_point m c t _ j).trans ?_
  refine congrArg₂ (· + ·) ?_ rfl
  blk_point [iblk, V, idx t, row]

/-- The two halves of the product make the whole of it. -/
theorem resid_eq (x : FVec Ideal S16384x1024 .f32) (g : FVec Ideal S1024 .f32) (w : FVec Ideal S1024x5632 .f32) (d : FVec Ideal S2816x1024 .f32)
    (r : Fin 16384) (l : Fin 1024) :
    resid x g w d (ix2 r l) = x (ix2 r l) + (∑ k : Fin 1408, act (gateUp x g w) (ix2 r ⟨k.val, by omega⟩) * d (ix2 ⟨k.val, by omega⟩ l))
      + ∑ k : Fin 1408, act (gateUp x g w) (ix2 r ⟨1408 + k.val, by omega⟩) * d (ix2 ⟨1408 + k.val, by omega⟩ l) := by
  pointwise [resid]
  rw [Fin.sum_univ_two_halves 1408 1408 rfl, add_assoc]

/-- The last normalisation of a block of rows is the reference's at those rows. -/
theorem last_point (c : Dev nD) (t : Fin cfg0.N) (y : S512x1024.Idx) :
    k0_pay3 (F := Ideal) (fun j : S512x1024.Idx => resid (ax m c) (ag m c) (aw m c) (ad m c) (ix2 (row t (j 0)) (j 1))) (iblk m c 5 t) y
      = REF (ax m c) (ag m c) (aw m c) (ad m c) (af m c) (((cfg0.win 6).blk t).view.emb y) := by
  pointwise [k0_pay3, REF, normed]
  blk_point [iblk, V, idx t, lastGain m c, row]

/-- The kernel's result array is the reference's term of the arguments. -/
theorem final (c : Dev nD) : (dats m 0 c).arrAt 6 (cfgs 0).N = REF (ax m c) (ag m c) (aw m c) (ad m c) (af m c) := by
  refine (dats m 0 c).arrAt_eq_of_covers 6 _ (by decide +kernel) fun t hf y => ?_
  have h1 : t.val % 2 = 1 := (flush0_6 t).mp hf
  have h0 : ¬t.val % 2 = 0 := by omega
  have hlt : t.val - 1 < cfg0.N := Nat.lt_of_le_of_lt (Nat.sub_le _ _) t.isLt
  have hp0 : (⟨t.val - 1, hlt⟩ : Fin cfg0.N).val % 2 = 0 := by show (t.val - 1) % 2 = 0; omega
  have hp1 : ¬(⟨t.val - 1, hlt⟩ : Fin cfg0.N).val % 2 = 1 := by show ¬(t.val - 1) % 2 = 1; omega
  have hrow : row ⟨t.val - 1, hlt⟩ = row t := by
    funext r
    have hq : (t.val - 1) / 2 = t.val / 2 := by omega
    exact Fin.ext (by simp only [row, hq])
  have hk : kept m c ⟨t.val - 1, hlt⟩ = kept m c t := by unfold kept; rw [hrow]
  have hs := (scratch m c ⟨t.val - 1, hlt⟩ hp0 hp1).trans hk
  have ho := first m c ⟨t.val - 1, hlt⟩ hp0 hp1
  blk_simp
  rw [after0_6, outsAt0_B m c t h0 h1]
  frame_out
  refine Eq.trans ?_ (last_point m c t y)
  refine congrArg (fun a => k0_pay3 (F := Ideal) a (iblk m c 5 t) y) ?_
  rw [read_unread_whole, hs, ho]
  funext j
  refine (half_point m c t _ j).trans ?_
  refine Eq.trans ?_ (resid_eq (ax m c) (ag m c) (aw m c) (ad m c) (row t (j 0)) (j 1)).symm
  rw [hrow]
  have hc0 : ∀ k : Fin 1408, col ⟨t.val - 1, hlt⟩ k = ⟨k.val, by omega⟩ := fun k => Fin.ext (by
    show 1408 * ((t.val - 1) % 2) + k.val = k.val; omega)
  have hc1 : ∀ k : Fin 1408, col t k = ⟨1408 + k.val, by omega⟩ := fun k => Fin.ext (by
    show 1408 * (t.val % 2) + k.val = 1408 + k.val; omega)
  simp only [hc0, hc1]

end Cert.FfnIdeal.RefValue
-- ==== Proof.FfnInnerValue.lean ====
/-
# The feed-forward network without the last normalisation: the kernel's array is the reference's

The grid walks the 32 blocks of rows and, within each, the two halves of the hidden columns. The first point of a row
block normalises the rows, keeps them, and starts the result from the residual; both points add their half of the
product with the down weights.
-/
module

public import proofs.«01_k».proof.Proof.Gen.FfnInnerIdeal.Value
public import proofs.«01_k».proof.Proof.Gen.FfnInnerRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.FfnInnerRefIdeal.RefValue

open Cert.FfnInnerRefIdeal Cert.FfnInnerRefIdeal.Gen Idealize.ShloMosaic Idealize.ShloMosaic.TcCoe Idealize.SL.Sem

/-- The rows, each divided by the root of its mean square, times the gains. -/
def normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The hidden columns: the gates and, after them, the values they gate. -/
def gateUp (x : FVec Ideal S16384x1024 .f32) (g : FVec Ideal S1024 .f32) (w : FVec Ideal S1024x5632 .f32) : FVec Ideal S16384x5632 .f32 :=
  Host.dotGeneral dot_S16384x1024_S1024x5632_S16384x5632_1_0_0_1_n_n none (normed x g) w

/-- The gated values, from the hidden columns. -/
def act (H : FVec Ideal S16384x5632 .f32) : FVec Ideal S16384x2816 .f32 :=
  mulf (mulf (extractStridedSlice S16384x2816 ![0, 0] H slices_S16384x5632_S16384x2816_0_0) (Host.divf (broadcastInDim S16384x2816 ![] bcast_S_S16384x2816 (constant S_ .f32 0x3F800000#32)) (addf (broadcastInDim S16384x2816 ![] bcast_S_S16384x2816 (constant S_ .f32 0x3F800000#32)) (Host.exp (Host.negf (extractStridedSlice S16384x2816 ![0, 0] H slices_S16384x5632_S16384x2816_0_0)))))) (extractStridedSlice S16384x2816 ![0, 2816] H slices_S16384x5632_S16384x2816_0_2816)

/-- The residual plus the product of the gated values with the down weights. -/
def resid (x : FVec Ideal S16384x1024 .f32) (g : FVec Ideal S1024 .f32) (w : FVec Ideal S1024x5632 .f32) (d : FVec Ideal S2816x1024 .f32) : FVec Ideal S16384x1024 .f32 :=
  addf x (Host.dotGeneral dot_S16384x2816_S2816x1024_S16384x1024_1_0_0_1_n_n none (act (gateUp x g w)) d)

end Cert.FfnInnerRefIdeal.RefValue

namespace Cert.FfnInnerIdeal.RefValue

open Cert.FfnInnerIdeal Cert.FfnInnerIdeal.Gen Idealize.ShloMosaic Idealize.ShloMosaic.TcCoe Idealize.SL.Sem
open Cert.FfnInnerRefIdeal.RefValue (normed gateUp act resid)

variable (m : (ℓ : Loc nD τ sig) → Buf (Elt Ideal) ℓ)

/-- The block that each window stages at a grid point. -/
theorem idx : ∀ t : Fin cfg0.N, win0_0.index t = ![t.val / 2, 0] ∧ win0_1.index t = ![0, 0] ∧ win0_2.index t = ![0, t.val % 2]
    ∧ win0_3.index t = ![0, t.val % 2 + 2] ∧ win0_4.index t = ![t.val % 2, 0] ∧ win0_5.index t = ![0, 0] ∧ win0_6.index t = ![t.val / 2, 0] :=
  (by decide +kernel : ∀ t : Fin grid0.N, _)

/-- The arguments, by what they are. -/
abbrev ax (c : Dev nD) : FVec Ideal S16384x1024 .f32 := m ((c : Thread nD τ).loc main_arg0)
abbrev ag (c : Dev nD) : FVec Ideal S1024 .f32 := m ((c : Thread nD τ).loc main_arg1)
abbrev aw (c : Dev nD) : FVec Ideal S1024x5632 .f32 := m ((c : Thread nD τ).loc main_arg2)
abbrev ad (c : Dev nD) : FVec Ideal S2816x1024 .f32 := m ((c : Thread nD τ).loc main_arg3)

/-- The first gains as the region finds them: one row. -/
theorem gain (c : Dev nD) : V m c main_v0 = fun j : S1x1024.Idx => m ((c : Thread nD τ).loc main_arg1) (ix1 (j 1)) := by
  entry_read
  funext j
  pointwise

/-- The hidden weights as the region finds them: the argument, cast, which changes nothing here. -/
theorem wgu (c : Dev nD) : V m c main_v1 = m ((c : Thread nD τ).loc main_arg2) := by
  entry_read
  rfl

/-- The down weights as the region finds them. -/
theorem wdown (c : Dev nD) : V m c main_v2 = m ((c : Thread nD τ).loc main_arg3) := by
  entry_read
  rfl

/-- The row of the arrays that a grid point's block holds at its row `r`. -/
def row (t : Fin cfg0.N) (r : Fin 512) : Fin 16384 :=
  ⟨512 * (t.val / 2) + r.val, by have := lt_of_lt_of_eq t.isLt N_0; omega⟩

/-- The hidden column that a grid point's half holds at its column `k`. -/
def col (t : Fin cfg0.N) (k : Fin 1408) : Fin 2816 :=
  ⟨1408 * (t.val % 2) + k.val, by omega⟩

/-- The rows that the kept buffer must hold at a grid point. -/
def kept (c : Dev nD) (t : Fin cfg0.N) : FVec Ideal S512x1024 .bf16 := fun j =>
  normed (ax m c) (ag m c) (ix2 (row t (j 0)) (j 1))

/-- The normalisation of the point's rows is the reference's at those rows. -/
theorem norm_point (c : Dev nD) (t : Fin cfg0.N) : k0_pay1 (F := Ideal) (iblk m c 0 t) (iblk m c 1 t) = kept m c t := by
  funext j
  pointwise [k0_pay1, kept, normed]
  blk_point [iblk, V, idx t, gain m c, row]

/-- A point's addition: its half of the product with the down weights, the rest left as it was. -/
theorem half_point (c : Dev nD) (t : Fin cfg0.N) (acc : FVec Ideal S512x1024 .f32) (j : S512x1024.Idx) :
    k0_pay2 (F := Ideal) (kept m c t) (iblk m c 2 t) (iblk m c 3 t) acc (iblk m c 4 t) j
      = acc j + ∑ k : Fin 1408, act (gateUp (ax m c) (ag m c) (aw m c)) (ix2 (row t (j 0)) (col t k)) * ad m c (ix2 (col t k) (j 1)) := by
  pointwise [k0_pay2, kept, act, gateUp, Ideal.logistic]
  blk_point [iblk, V, idx t, wgu m c, wdown m c, row, col]

/-- After every point the kept buffer holds the normalised rows of the point's row block. -/
theorem scratch (c : Dev nD) (t : Fin cfg0.N) (h0 : t.val % 2 = 0) : (outsAt0 m c t.val t.isLt).2 = kept m c t := by
  rw [outsAt0_A m c t h0]
  frame_out
  exact norm_point m c t

/-- After the first point of a row block the result's block holds the residual plus the first half of the product. -/
theorem first (c : Dev nD) (t : Fin cfg0.N) (h0 : t.val % 2 = 0) :
    (outsAt0 m c t.val t.isLt).1 = fun j : S512x1024.Idx => ax m c (ix2 (row t (j 0)) (j 1))
      + ∑ k : Fin 1408, act (gateUp (ax m c) (ag m c) (aw m c)) (ix2 (row t (j 0)) (col t k)) * ad m c (ix2 (col t k) (j 1)) := by
  rw [outsAt0_A m c t h0]
  frame_out
  rw [norm_point m c t]
  funext j
  refine (half_point m c t _ j).trans ?_
  refine congrArg₂ (· + ·) ?_ rfl
  blk_point [iblk, V, idx t, row]

/-- The two halves of the product make the whole of it. -/
theorem resid_eq (x : FVec Ideal S16384x1024 .f32) (g : FVec Ideal S1024 .f32) (w : FVec Ideal S1024x5632 .f32) (d : FVec Ideal S2816x1024 .f32)
    (r : Fin 16384) (l : Fin 1024) :
    resid x g w d (ix2 r l) = x (ix2 r l) + (∑ k : Fin 1408, act (gateUp x g w) (ix2 r ⟨k.val, by omega⟩) * d (ix2 ⟨k.val, by omega⟩ l))
      + ∑ k : Fin 1408, act (gateUp x g w) (ix2 r ⟨1408 + k.val, by omega⟩) * d (ix2 ⟨1408 + k.val, by omega⟩ l) := by
  pointwise [resid]
  rw [Fin.sum_univ_two_halves 1408 1408 rfl, add_assoc]

/-- The kernel's result array is the reference's term of the arguments. -/
theorem final (c : Dev nD) : (dats m 0 c).arrAt 6 (cfgs 0).N = resid (ax m c) (ag m c) (aw m c) (ad m c) := by
  refine (dats m 0 c).arrAt_eq_of_covers 6 _ (by decide +kernel) fun t hf y => ?_
  have h1 : t.val % 2 = 1 := (flush0_6 t).mp hf
  have h0 : ¬t.val % 2 = 0 := by omega
  have hlt : t.val - 1 < cfg0.N := Nat.lt_of_le_of_lt (Nat.sub_le _ _) t.isLt
  have hp0 : (⟨t.val - 1, hlt⟩ : Fin cfg0.N).val % 2 = 0 := by show (t.val - 1) % 2 = 0; omega
  have hrow : row ⟨t.val - 1, hlt⟩ = row t := by
    funext r
    have hq : (t.val - 1) / 2 = t.val / 2 := by omega
    exact Fin.ext (by simp only [row, hq])
  have hk : kept m c ⟨t.val - 1, hlt⟩ = kept m c t := by unfold kept; rw [hrow]
  have hs := (scratch m c ⟨t.val - 1, hlt⟩ hp0).trans hk
  have ho := first m c ⟨t.val - 1, hlt⟩ hp0
  blk_simp
  rw [after0_6, outsAt0_B m c t h0]
  frame_out
  rw [read_unread_whole, hs, ho]
  refine (half_point m c t _ y).trans ?_
  have he : ((cfg0.win 6).blk t).view.emb y = (ix2 (row t (y 0)) (y 1) : S16384x1024.Idx) := by blk_ext [idx t, row]
  refine Eq.trans ?_ (congrArg (resid (ax m c) (ag m c) (aw m c) (ad m c)) he).symm
  refine Eq.trans ?_ (resid_eq (ax m c) (ag m c) (aw m c) (ad m c) (row t (y 0)) (y 1)).symm
  rw [hrow]
  have hc0 : ∀ k : Fin 1408, col ⟨t.val - 1, hlt⟩ k = ⟨k.val, by omega⟩ := fun k => Fin.ext (by
    show 1408 * ((t.val - 1) % 2) + k.val = k.val; omega)
  have hc1 : ∀ k : Fin 1408, col t k = ⟨1408 + k.val, by omega⟩ := fun k => Fin.ext (by
    show 1408 * (t.val % 2) + k.val = 1408 + k.val; omega)
  simp only [hc0, hc1]

end Cert.FfnInnerIdeal.RefValue
-- ==== Proof.ProjValue.lean ====
/-
# The normed projection: the kernel's array is the reference's

The grid walks the 32 blocks of rows and, within each, the 5 blocks of columns. The first point of a row block
normalises the rows and keeps them; the other four find them as they were left. Each point stores one block of the
product with the weights, which is the reference's block.
-/
module

public import proofs.«01_k».proof.Proof.Gen.ProjIdeal.Value
public import proofs.«01_k».proof.Proof.Gen.ProjRefIdeal.Run
public import Idealize.ShloMosaic.Lib.Pointwise
public import Idealize.ShloMosaic.Lib.Pipeline.ValueKit
public import Idealize.ShloMosaic.Lib.Pipeline.ReadBack

@[expose] public section

set_option maxRecDepth 16384

noncomputable section

namespace Cert.ProjRefIdeal.RefValue

open Cert.ProjRefIdeal Cert.ProjRefIdeal.Gen Idealize.ShloMosaic Idealize.ShloMosaic.TcCoe Idealize.SL.Sem

/-- The rows, each divided by the root of its mean square, times the gains. -/
def normed (x : FVec Ideal S16384x1024 .f32) (g : FVec Ideal S1024 .f32) : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The reference's result as a function of its arguments. -/
def REF (x : FVec Ideal S16384x1024 .f32) (g : FVec Ideal S1024 .f32) (w : FVec Ideal S1024x7040 .bf16) : FVec Ideal S16384x7040 .f32 :=
  Host.dotGeneral dot_S16384x1024_S1024x7040_S16384x7040_1_0_0_1_n_n none (normed x g) (extf .f32 w bitsLt_bf16_f32)

end Cert.ProjRefIdeal.RefValue

namespace Cert.ProjIdeal.RefValue

open Cert.ProjIdeal Cert.ProjIdeal.Gen Idealize.ShloMosaic Idealize.ShloMosaic.TcCoe Idealize.SL.Sem
open Cert.ProjRefIdeal.RefValue (REF normed)

variable (m : (ℓ : Loc nD τ sig) → Buf (Elt Ideal) ℓ)

/-- The block that each window stages at a grid point. -/
theorem idx : ∀ t : Fin cfg0.N, win0_0.index t = ![t.val / 5, 0] ∧ win0_1.index t = ![0, 0] ∧ win0_2.index t = ![0, t.val % 5]
    ∧ win0_3.index t = ![t.val / 5, t.val % 5] :=
  (by decide +kernel : ∀ t : Fin grid0.N, _)

/-- The gains as the region finds them: one row. -/
theorem gain (c : Dev nD) : V m c main_v0 = fun j : S1x1024.Idx => m ((c : Thread nD τ).loc main_arg1) (ix1 (j 1)) := by
  entry_read
  funext j
  pointwise

/-- The row of the arrays that a grid point's block holds at its row `r`. -/
def row (t : Fin cfg0.N) (r : Fin 512) : Fin 16384 :=
  ⟨512 * (t.val / 5) + r.val, by have := lt_of_lt_of_eq t.isLt N_0; omega⟩

/-- The rows that the kept buffer must hold at a grid point. -/
def kept (c : Dev nD) (t : Fin cfg0.N) : FVec Ideal S512x1024 .bf16 := fun j =>
  normed (m ((c : Thread nD τ).loc main_arg0)) (m ((c : Thread nD τ).loc main_arg1)) (ix2 (row t (j 0)) (j 1))

/-- The normalisation of the point's rows is the reference's at those rows. -/
theorem norm_point (c : Dev nD) (t : Fin cfg0.N) : k0_pay1 (F := Ideal) (iblk m c 0 t) (iblk m c 1 t) = kept m c t := by
  funext j
  pointwise [k0_pay1, kept, normed]
  blk_point [iblk, V, idx t, gain m c, row]

/-- After every point the kept buffer holds the normalised rows of the point's row block. -/
theorem scratch (c : Dev nD) : ∀ (n : ℕ) (hn : n < cfg0.N), (outsAt0 m c n hn).2 = kept m c ⟨n, hn⟩ := by
  intro n
  induction n with
  | zero =>
    intro hn
    rw [outsAt0_A m c ⟨0, hn⟩ rfl]
    frame_out
    exact norm_point m c ⟨0, hn⟩
  | succ n ih =>
    intro hn
    by_cases h : (n + 1) % 5 = 0
    · rw [outsAt0_A m c ⟨n + 1, hn⟩ h]
      frame_out
      exact norm_point m c ⟨n + 1, hn⟩
    · rw [outsAt0_B m c ⟨n + 1, hn⟩ h]
      refine Eq.trans (b := (outsAt0 m c n (Nat.lt_of_succ_lt hn)).2) (by unfold sout0_B_0; rfl) ?_
      rw [ih]
      have hr : row ⟨n, Nat.lt_of_succ_lt hn⟩ = row ⟨n + 1, hn⟩ := by
        funext r
        have hq : n / 5 = (n + 1) / 5 := by omega
        exact Fin.ext (by simp only [row, hq])
      unfold kept
      rw [hr]

/-- A grid point's store, at an index of its block. -/
theorem point (c : Dev nD) (t : Fin cfg0.N) (y : S512x1408.Idx) :
    k0_pay2 (F := Ideal) (kept m c t) (iblk m c 2 t) y
      = REF (m ((c : Thread nD τ).loc main_arg0)) (m ((c : Thread nD τ).loc main_arg1)) (m ((c : Thread nD τ).loc main_arg2)) (((cfg0.win 3).blk t).view.emb y) := by
  pointwise [k0_pay2, REF, kept]
  blk_point [iblk, V, idx t, row]

/-- The kernel's result array is the reference's term of the arguments. -/
theorem final (c : Dev nD) : (dats m 0 c).arrAt 3 (cfgs 0).N = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h : t.val % 5 = 0
  · rw [outsAt0_A m c t h]
    frame_out
    rw [norm_point m c t]
    exact point m c t y
  · have hs := scratch m c t.val t.isLt
    have hp : (outsAt0 m c (t.val - 1) (Nat.lt_of_le_of_lt (Nat.sub_le _ _) t.isLt)).2 = kept m c t := by
      rw [outsAt0_B m c t h] at hs
      exact Eq.trans (by unfold sout0_B_0; rfl) hs
    rw [outsAt0_B m c t h]
    frame_out
    rw [hp]
    refine Eq.trans ?_ (point m c t y)
    rw [read_unread_whole]

end Cert.ProjIdeal.RefValue
-- ==== Proof.MergeValue.lean ====
/-
# The merge of the three branches: the kernel's array is the reference's

Each grid point writes 512 rows of the result; every entry is the reference's entry at the same row and column: the
residual plus the product of the gated sum with the output weights.
-/
module

public import proofs.«01_k».proof.Proof.Gen.MergeIdeal.Value
public import proofs.«01_k».proof.Proof.Gen.MergeRefIdeal.Run
public import Idealize.ShloMosaic.Lib.Pointwise
public import Idealize.ShloMosaic.Lib.Pipeline.ValueKit

@[expose] public section

set_option maxRecDepth 16384

noncomputable section

namespace Cert.MergeRefIdeal.RefValue

open Cert.MergeRefIdeal Cert.MergeRefIdeal.Gen Idealize.ShloMosaic Idealize.ShloMosaic.TcCoe Idealize.SL.Sem

/-- The gates: the logistic of the first 3072 columns of the projection. -/
def gates (P : FVec Ideal S16384x7040 .f32) : FVec Ideal S16384x3072 .f32 :=
  Host.divf (broadcastInDim S16384x3072 ![] bcast_S_S16384x3072 (constant S_ .f32 0x3F800000#32)) (addf (broadcastInDim S16384x3072 ![] bcast_S_S16384x3072 (constant S_ .f32 0x3F800000#32)) (Host.exp (Host.negf (extractStridedSlice S16384x3072 ![0, 0] P slices_S16384x7040_S16384x3072_0_0))))

/-- The gated sum of the three branches' products. -/
def merged (P : FVec Ideal S16384x7040 .f32) (a b c : FVec Ideal S16384x512 .f32) (W : FVec Ideal S3x512x1024 .f32) : FVec Ideal S16384x1024 .f32 :=
  addf (addf (mulf (extractStridedSlice S16384x1024 ![0, 0] (gates P) slices_S16384x3072_S16384x1024_0_0) (Host.dotGeneral dot_S16384x512_S512x1024_S16384x1024_1_0_0_1_n_n none a (shapeCast _ (extractStridedSlice S1x512x1024 ![0, 0, 0] W slices_S3x512x1024_S1x512x1024_0_0_0) shapeCasts_S1x512x1024_S512x1024))) (mulf (extractStridedSlice S16384x1024 ![0, 1024] (gates P) slices_S16384x3072_S16384x1024_0_1024) (Host.dotGeneral dot_S16384x512_S512x1024_S16384x1024_1_0_0_1_n_n none b (shapeCast _ (extractStridedSlice S1x512x1024 ![1, 0, 0] W slices_S3x512x1024_S1x512x1024_1_0_0) shapeCasts_S1x512x1024_S512x1024)))) (mulf (extractStridedSlice S16384x1024 ![0, 2048] (gates P) slices_S16384x3072_S16384x1024_0_2048) (Host.dotGeneral dot_S16384x512_S512x1024_S16384x1024_1_0_0_1_n_n none c (shapeCast _ (extractStridedSlice S1x512x1024 ![2, 0, 0] W slices_S3x512x1024_S1x512x1024_2_0_0) shapeCasts_S1x512x1024_S512x1024)))

/-- The reference's result as a function of its arguments. -/
def REF (x : FVec Ideal S16384x1024 .f32) (P : FVec Ideal S16384x7040 .f32) (a b c : FVec Ideal S16384x512 .f32) (W : FVec Ideal S3x512x1024 .f32) (O : FVec Ideal S1024x1024 .f32) : FVec Ideal S16384x1024 .f32 :=
  addf x (Host.dotGeneral dot_S16384x1024_S1024x1024_S16384x1024_1_0_0_1_n_n none (merged P a b c W) O)

end Cert.MergeRefIdeal.RefValue

namespace Cert.MergeIdeal.RefValue

open Cert.MergeIdeal Cert.MergeIdeal.Gen Idealize.ShloMosaic Idealize.ShloMosaic.TcCoe Idealize.SL.Sem
open Cert.MergeRefIdeal.RefValue (REF merged gates)

variable (m : (ℓ : Loc nD τ sig) → Buf (Elt Ideal) ℓ)

/-- The block that each window stages at a grid point. -/
theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![0, 0, 0] ∧ win0_6.index t = ![0, 0]
    ∧ win0_7.index t = ![t.val, 0] :=
  (by decide +kernel : ∀ t : Fin grid0.N, _)

/-- The branch weights as the region finds them: the argument, cast, which changes nothing here. -/
theorem wbr (c : Dev nD) : V m c main_v0 = m ((c : Thread nD τ).loc main_arg5) := by
  entry_read
  rfl

/-- The output weights as the region finds them. -/
theorem wout (c : Dev nD) : V m c main_v1 = m ((c : Thread nD τ).loc main_arg6) := by
  entry_read
  rfl

/-- The row of the arrays that a grid point's block holds at its row `r`. -/
def row (t : Fin cfg0.N) (r : Fin 512) : Fin 16384 :=
  ⟨512 * t.val + r.val, by have := lt_of_lt_of_eq t.isLt N_0; omega⟩

/-- The gates' block as the body reads it: the rows of the point, the columns from 0 on. -/
theorem proj_blk (c : Dev nD) (t : Fin cfg0.N) :
    X0_1 m c t = fun j : S512x3072.Idx => m ((c : Thread nD τ).loc main_arg1) (ix2 (row t (j 0)) ⟨(j 1).val, lt_trans (j 1).isLt (by decide)⟩) := by
  funext j
  unfold X0_1 Pipeline.Window.fill
  rw [dif_pos (moved0_1 t _)]
  blk_point [iblk, idx t, V, row]

/-- A grid point's store, at an index of its block. -/
theorem point (c : Dev nD) (t : Fin cfg0.N) (y : S512x1024.Idx) :
    k0_pay1 (F := Ideal) (iblk m c 0 t) (k0_pay2 (View.ld (X0_1 m c t) (Rect.unit (s := S512x3072) ![0, 0] S512x1024.size inb_S512x3072_S512x1024_0_0)) (iblk m c 2 t) (View.ld (iblk m c 5 t) (Rect.unit (s := S3x512x1024) ![0, 0, 0] S1x512x1024.size inb_S3x512x1024_S1x512x1024_0_0_0)) (View.ld (X0_1 m c t) (Rect.unit (s := S512x3072) ![0, 1024] S512x1024.size inb_S512x3072_S512x1024_0_1024)) (iblk m c 3 t) (View.ld (iblk m c 5 t) (Rect.unit (s := S3x512x1024) ![1, 0, 0] S1x512x1024.size inb_S3x512x1024_S1x512x1024_1_0_0)) (View.ld (X0_1 m c t) (Rect.unit (s := S512x3072) ![0, 2048] S512x1024.size inb_S512x3072_S512x1024_0_2048)) (iblk m c 4 t) (View.ld (iblk m c 5 t) (Rect.unit (s := S3x512x1024) ![2, 0, 0] S1x512x1024.size inb_S3x512x1024_S1x512x1024_2_0_0))) (k0_pay3 (iblk m c 6 t)) (constant S512x1024 .f32 0x00000000#32) y
    = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (((cfg0.win 7).blk t).view.emb y) := by
  rw [proj_blk m c t]
  pointwise [k0_pay1, k0_pay2, k0_pay3, REF, merged, gates, Ideal.logistic]
  blk_point [iblk, row, idx t, wbr m c, wout m c, V]

/-- The kernel's result array is the reference's term of the arguments. -/
theorem final (c : Dev nD) : (dats m 0 c).arrAt 7 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t _ y => ?_
  blk_simp
  rw [after0_7]
  unfold outsAt0
  frame_out
  exact point m c t y

end Cert.MergeIdeal.RefValue
-- ==== Proof.SguValue.lean ====
/-
# The spatial gating unit: the kernel's array is the reference's

Each grid point holds one chunk of 128 rows. It normalises the second half's rows, mixes the rows of each group of 128
channels by that group's lower triangular weights, and writes the four groups' products with the first half one after
another. Every entry written is the reference's entry at the same row and column.
-/
module

public import proofs.«01_k».proof.Proof.Gen.SguIdeal.Value
public import proofs.«01_k».proof.Proof.Gen.SguRefIdeal.Run
public import Idealize.ShloMosaic.Lib.Pointwise
public import Idealize.ShloMosaic.Lib.Pipeline.ValueKit

@[expose] public section

set_option maxRecDepth 16384

noncomputable section

namespace Cert.SguRefIdeal.RefValue

open Cert.SguRefIdeal Cert.SguRefIdeal.Gen Idealize.ShloMosaic Idealize.ShloMosaic.TcCoe Idealize.SL.Sem

/-- The columns that gate. -/
def colsU (P : FVec Ideal S16384x7040 .f32) : FVec Ideal S16384x512 .f32 :=
  extractStridedSlice S16384x512 ![0, 4608] P slices_S16384x7040_S16384x512_0_4608

/-- The columns that are mixed. -/
def colsV (P : FVec Ideal S16384x7040 .f32) : FVec Ideal S16384x512 .f32 :=
  extractStridedSlice S16384x512 ![0, 5120] P slices_S16384x7040_S16384x512_0_5120

/-- The Gaussian error linear unit, by the hyperbolic tangent. -/
def gelu (x : FVec Ideal S16384x512 .f32) : FVec Ideal S16384x512 .f32 :=
  mulf x (mulf (broadcastInDim S16384x512 ![] bcast_S_S16384x512 (constant S_ .f32 0x3F000000#32)) (addf (broadcastInDim S16384x512 ![] bcast_S_S16384x512 (constant S_ .f32 0x3F800000#32)) (Host.tanh (mulf (broadcastInDim S16384x512 ![] bcast_S_S16384x512 (constant S_ .f32 0x3F4C422A#32)) (addf x (mulf (broadcastInDim S16384x512 ![] bcast_S_S16384x512 (constant S_ .f32 0x3D372713#32)) (mulf (mulf x x) x)))))))

/-- The mean of each row, in a column. -/
def mean (x : FVec Ideal S16384x512 .f32) : FVec Ideal S16384x1 .f32 :=
  Host.divf (broadcastInDim S16384x1 ![0] bcast_S16384_S16384x1_0 (Host.reduceAdd x (constant S_ .f32 0x00000000#32) reducesTo_S16384x512_S16384_d1 h_S_)) (broadcastInDim S16384x1 ![] bcast_S_S16384x1 (constant S_ .f32 0x44000000#32))

/-- The rows less their means. -/
def centred (x : FVec Ideal S16384x512 .f32) : FVec Ideal S16384x512 .f32 :=
  subf x (broadcastInDim S16384x512 ![0, 1] bcast_S16384x1_S16384x512_0_1 (mean x))

/-- The rows less their means, divided by the root of their variance, with the gains and the offsets. -/
def normed (x : FVec Ideal S16384x512 .f32) (g b : FVec Ideal S512 .f32) : FVec Ideal S16384x512 .f32 :=
  addf (mulf (mulf (centred x) (broadcastInDim S16384x512 ![0, 1] bcast_S16384x1_S16384x512_0_1 (Host.rsqrt (addf (mean (mulf (centred x) (centred x))) (broadcastInDim S16384x1 ![] bcast_S_S16384x1 (constant S_ .f32 0x358637BD#32)))))) (broadcastInDim S16384x512 ![0, 1] bcast_S1x512_S16384x512_0_1 (broadcastInDim S1x512 ![1] bcast_S512_S1x512_1 g))) (broadcastInDim S16384x512 ![0, 1] bcast_S1x512_S16384x512_0_1 (broadcastInDim S1x512 ![1] bcast_S512_S1x512_1 b))

/-- The mixing weights with zeros above the diagonal. -/
def causal (w : FVec Ideal S4x128x128 .f32) : FVec Ideal S4x128x128 .f32 :=
  select (broadcastInDim S4x128x128 ![1, 2] bcast_S128x128_S4x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constantI S_ 1 1#1)) (broadcastInDim S128x128 ![] bcast_S_S128x128 (constantI S_ 1 0#1)))) w (broadcastInDim S4x128x128 ![] bcast_S_S4x128x128 (id (constant S_ .f32 0x00000000#32)))

/-- The reference's result as a function of its arguments. -/
def REF (P : FVec Ideal S16384x7040 .f32) (g b : FVec Ideal S512 .f32) (w : FVec Ideal S4x128x128 .f32) (s : FVec Ideal S4x128 .f32) : FVec Ideal S16384x512 .f32 :=
  mulf (gelu (colsU P)) (shapeCast _ (addf (transpose S128x128x4x128 [1, 3, 0, 2] (Host.dotGeneral dot_S128x128x4x128_S4x128x128_S4x128x128x128_1_2_03_1_2_0 none (shapeCast _ (normed (gelu (colsV P)) g b) shapeCasts_S16384x512_S128x128x4x128) (causal w)) transposes_S4x128x128x128_S128x128x4x128_1_3_0_2) (broadcastInDim S128x128x4x128 ![0, 1, 2, 3] bcast_S1x128x4x1_S128x128x4x128_0_1_2_3 (broadcastInDim S1x128x4x1 ![1, 2] bcast_S128x4_S1x128x4x1_1_2 (transpose S128x4 [1, 0] s transposes_S4x128_S128x4_1_0)))) shapeCasts_S128x128x4x128_S16384x512)

/-- The triangle's condition. -/
theorem below (r x : Fin 128) :
    (Scalar.select (IntOp.cmpi CmpIPredicate.sge (IntOp.addi (BitVec.ofNat 32 r.val) 0#32) (BitVec.ofNat 32 x.val)) 1#1 0#1 : BitVec 1)
      = if x.val ≤ r.val then 1#1 else 0#1 := by
  revert r x
  decide +kernel

/-- The reference's entry at a row and a column. -/
theorem ref_at (P : FVec Ideal S16384x7040 .f32) (g b : FVec Ideal S512 .f32) (w : FVec Ideal S4x128x128 .f32) (s : FVec Ideal S4x128 .f32)
    (n : Fin 128) (r : Fin 128) (k : Fin 4) (l : Fin 128) :
    REF P g b w s (ix2 ⟨n.val * 128 + r.val, by omega⟩ ⟨k.val * 128 + l.val, by omega⟩)
      = gelu (colsU P) (ix2 ⟨n.val * 128 + r.val, by omega⟩ ⟨k.val * 128 + l.val, by omega⟩)
        * ((∑ q : Fin 128, (if q.val ≤ r.val then w (ix3 k r q) else 0) * normed (gelu (colsV P)) g b (ix2 ⟨n.val * 128 + q.val, by omega⟩ ⟨k.val * 128 + l.val, by omega⟩))
          + s (ix2 k r)) := by
  pointwise [REF, causal]
  refine congrArg (_ * ·) (congrArg (· + _) (Finset.sum_congr rfl fun x _ => ?_))
  rw [mul_comm, below]
  simp only [id]
  pointwise
  by_cases e : x.val ≤ r.val
  · rw [if_pos e, if_pos e]; rfl
  · rw [if_neg e, if_neg e, zero_mul]; rfl

end Cert.SguRefIdeal.RefValue

namespace Cert.SguIdeal.RefValue

open Cert.SguIdeal Cert.SguIdeal.Gen Idealize.ShloMosaic Idealize.ShloMosaic.TcCoe Idealize.SL.Sem
open Cert.SguRefIdeal.RefValue (REF ref_at gelu normed centred mean colsU colsV causal)

variable (m : (ℓ : Loc nD τ sig) → Buf (Elt Ideal) ℓ)

/-- The block that each window stages at a grid point. -/
theorem idx : ∀ t : Fin cfg0.N, win0_0.index t = ![t.val, 9] ∧ win0_1.index t = ![t.val, 10] ∧ win0_2.index t = ![0, 0]
    ∧ win0_3.index t = ![0, 0] ∧ win0_4.index t = ![0, 0, 0] ∧ win0_5.index t = ![0, 0] ∧ win0_6.index t = ![t.val, 0] :=
  (by decide +kernel : ∀ t : Fin grid0.N, _)

/-- The arguments, by what they are. -/
abbrev aP (c : Dev nD) : FVec Ideal S16384x7040 .f32 := m ((c : Thread nD τ).loc main_arg0)
abbrev ag (c : Dev nD) : FVec Ideal S512 .f32 := m ((c : Thread nD τ).loc main_arg1)
abbrev ab (c : Dev nD) : FVec Ideal S512 .f32 := m ((c : Thread nD τ).loc main_arg2)
abbrev aw (c : Dev nD) : FVec Ideal S4x128x128 .f32 := m ((c : Thread nD τ).loc main_arg3)
abbrev asp (c : Dev nD) : FVec Ideal S4x128 .f32 := m ((c : Thread nD τ).loc main_arg4)

/-- The gains as the region finds them: one row. -/
theorem gain (c : Dev nD) : V m c main_v0 = fun j : S1x512.Idx => m ((c : Thread nD τ).loc main_arg1) (ix1 (j 1)) := by
  entry_read
  funext j
  pointwise

/-- The offsets as the region finds them: one row. -/
theorem offset (c : Dev nD) : V m c main_v1 = fun j : S1x512.Idx => m ((c : Thread nD τ).loc main_arg2) (ix1 (j 1)) := by
  entry_read
  funext j
  pointwise

/-- The mixing offsets as the region finds them: transposed. -/
theorem mixOffset (c : Dev nD) : V m c main_v2 = fun j : S128x4.Idx => m ((c : Thread nD τ).loc main_arg4) (ix2 (j 1) (j 0)) := by
  entry_read
  funext j
  pointwise

/-- The row of the arrays that a grid point's block holds at its row `r`. -/
def row (t : Fin cfg0.N) (r : Fin 128) : Fin 16384 :=
  ⟨t.val * 128 + r.val, by have := lt_of_lt_of_eq t.isLt N_0; omega⟩

/-- The gating columns' block, as the body reads it. -/
theorem u_blk (c : Dev nD) (t : Fin cfg0.N) :
    X0_0 m c t = fun j : S128x512.Idx => colsU (aP m c) (ix2 (row t (j 0)) (j 1)) := by
  funext j
  unfold X0_0 Pipeline.Window.fill
  rw [dif_pos (moved0_0 t _)]
  pointwise [colsU]
  blk_point [iblk, idx t, V, row]

/-- The mixed columns' block, as the body reads it. -/
theorem v_blk (c : Dev nD) (t : Fin cfg0.N) :
    X0_1 m c t = fun j : S128x512.Idx => colsV (aP m c) (ix2 (row t (j 0)) (j 1)) := by
  funext j
  unfold X0_1 Pipeline.Window.fill
  rw [dif_pos (moved0_1 t _)]
  pointwise [colsV]
  blk_point [iblk, idx t, V, row]

/-- The gating values of the point's rows. -/
theorem u_point (x : FVec Ideal S16384x512 .f32) (t : Fin cfg0.N) :
    k0_pay4 (F := Ideal) (fun j => x (ix2 (row t (j 0)) (j 1))) = fun j : S128x512.Idx => gelu x (ix2 (row t (j 0)) (j 1)) := by
  funext j
  pointwise [k0_pay4, gelu]
  simp only [mul_assoc]

/-- The centred values of the point's rows. -/
theorem centred_point (x : FVec Ideal S16384x512 .f32) (t : Fin cfg0.N) :
    k0_pay5 (F := Ideal) (fun j => x (ix2 (row t (j 0)) (j 1))) = fun j : S128x512.Idx => centred (gelu x) (ix2 (row t (j 0)) (j 1)) := by
  funext j
  pointwise [k0_pay5, gelu, centred, mean]
  simp only [mul_assoc]

/-- The normalised values of the point's rows. -/
theorem normed_point (c : Dev nD) (t : Fin cfg0.N) (x : FVec Ideal S16384x512 .f32) :
    k0_pay7 (F := Ideal) (k0_pay5 (F := Ideal) (fun j => x (ix2 (row t (j 0)) (j 1)))) (k0_pay6 (F := Ideal) (fun j => x (ix2 (row t (j 0)) (j 1))))
        (iblk m c 2 t) (iblk m c 3 t)
      = fun j : S128x512.Idx => normed (gelu x) (ag m c) (ab m c) (ix2 (row t (j 0)) (j 1)) := by
  unfold k0_pay6
  rw [centred_point]
  funext j
  pointwise [k0_pay7, normed, mean]
  blk_point [iblk, V, idx t, gain m c, offset m c]

/-- The product of a group of channels: the gating values times the mixed values with their offset. -/
def group0 (u v : FVec Ideal S128x512 .f32) (o : Vec Ideal S128x4 .f32) (w : Vec Ideal S1x128x128 .f32) : FVec Ideal S128x128 .f32 :=
  mulf (extractStridedSlice S128x128 ![0, 0] u slices_S128x512_o0_0_S128x128)
    (addf (matmul dot_S128x128_S128x128_S128x128_1_0_0_1_n_n none
        (truncf .bf16 (select (cmpi .sge (iota .tc S128x128 32 [0] iota_S128x128_d0_w32) (iota .tc S128x128 32 [1] iota_S128x128_d1_w32))
          (shapeCast S128x128 w shapeCasts_S1x128x128_S128x128) (broadcast S128x128 (Scalar.ofBits .f32 0x00000000#32))) bitsLt_bf16_f32)
        (truncf .bf16 (extractStridedSlice S128x128 ![0, 0] v slices_S128x512_o0_0_S128x128) bitsLt_bf16_f32)
        (constant S128x128 .f32 0x00000000#32))
      (broadcastTo S128x128 (extractStridedSlice S128x1 ![0, 0] (k0_pay8 o) slices_S128x4_o0_0_S128x1) broadcasts_S128x1_S128x128))

/-- The product of a group of channels: the gating values times the mixed values with their offset. -/
def group1 (u v : FVec Ideal S128x512 .f32) (o : Vec Ideal S128x4 .f32) (w : Vec Ideal S1x128x128 .f32) : FVec Ideal S128x128 .f32 :=
  mulf (extractStridedSlice S128x128 ![0, 128] u slices_S128x512_o0_128_S128x128)
    (addf (matmul dot_S128x128_S128x128_S128x128_1_0_0_1_n_n none
        (truncf .bf16 (select (cmpi .sge (iota .tc S128x128 32 [0] iota_S128x128_d0_w32) (iota .tc S128x128 32 [1] iota_S128x128_d1_w32))
          (shapeCast S128x128 w shapeCasts_S1x128x128_S128x128) (broadcast S128x128 (Scalar.ofBits .f32 0x00000000#32))) bitsLt_bf16_f32)
        (truncf .bf16 (extractStridedSlice S128x128 ![0, 128] v slices_S128x512_o0_128_S128x128) bitsLt_bf16_f32)
        (constant S128x128 .f32 0x00000000#32))
      (broadcastTo S128x128 (extractStridedSlice S128x1 ![0, 1] (k0_pay8 o) slices_S128x4_o0_1_S128x1) broadcasts_S128x1_S128x128))

/-- The first group's product, over the normalised values. -/
theorem first (u a : FVec Ideal S128x512 .f32) (d : FVec Ideal S128x1 .f32) (g b : Vec Ideal S1x512 .f32) (o : Vec Ideal S128x4 .f32) (w : Vec Ideal S1x128x128 .f32) :
    k0_pay9 u a d g b o w = group0 u (k0_pay7 a d g b) o w := rfl

/-- The second group's product, over the normalised values. -/
theorem second (u a : FVec Ideal S128x512 .f32) (d : FVec Ideal S128x1 .f32) (g b : Vec Ideal S1x512 .f32) (o : Vec Ideal S128x4 .f32) (w : Vec Ideal S1x128x128 .f32) :
    k0_pay1 u (k0_pay10 a d g b o w) = group1 u (k0_pay7 a d g b) o w := rfl

/-- The array index of an index of a grid point's block. -/
theorem emb_at (t : Fin cfg0.N) (y : S128x512.Idx) (r : Fin 128) (k : Fin 4) (l : Fin 128) (h0 : (y 0).val = r.val) (h1 : (y 1).val = k.val * 128 + l.val) :
    ((cfg0.win 6).blk t).view.emb y
      = ix2 ⟨(⟨t.val, lt_of_lt_of_eq t.isLt N_0⟩ : Fin 128).val * 128 + r.val, by have := lt_of_lt_of_eq t.isLt N_0; have := r.isLt; simp only; omega⟩ ⟨k.val * 128 + l.val, by omega⟩ := by
  blk_ext
  · rw [(idx t).2.2.2.2.2.2]; simp; omega
  · rw [(idx t).2.2.2.2.2.2]; simp; omega

/-- The mixing weights' block is the whole argument. -/
theorem weight_blk (c : Dev nD) (t : Fin cfg0.N) (k : Fin 4) (r q : Fin 128) :
    iblk m c 4 t (ix3 k r q) = aw m c (ix3 k r q) := by
  blk_point [iblk, V, idx t]

/-- The mixing offsets' block is the whole argument, transposed. -/
theorem offset_blk (c : Dev nD) (t : Fin cfg0.N) (k : Fin 4) (r : Fin 128) :
    iblk m c 5 t (ix2 r k) = asp m c (ix2 k r) := by
  blk_point [iblk, idx t, mixOffset m c]

/-- A weight above the diagonal does not count. -/
theorem triangle (r x : Fin 128) (w v : EReal) :
    (Scalar.select (IntOp.cmpi CmpIPredicate.sge (BitVec.ofNat 32 r.val) (BitVec.ofNat 32 x.val)) (w * v) 0 : EReal)
      = (if x.val ≤ r.val then w else 0) * v := by
  have e : ∀ r x : Fin 128, IntOp.cmpi CmpIPredicate.sge (BitVec.ofNat 32 r.val) (BitVec.ofNat 32 x.val) = if x.val ≤ r.val then 1#1 else 0#1 := by
    decide +kernel
  rw [e]
  by_cases h : x.val ≤ r.val
  · rw [if_pos h, if_pos h]; rfl
  · rw [if_neg h, if_neg h, zero_mul]; rfl

/-- A grid point's stores, at an index of its block. -/
theorem point (c : Dev nD) (t : Fin cfg0.N) (y : S128x512.Idx) :
    outsAt0 m c t y = REF (aP m c) (ag m c) (ab m c) (aw m c) (asp m c) (((cfg0.win 6).blk t).view.emb y) := by
  unfold outsAt0
  rw [u_blk m c t, v_blk m c t]
  frame_out
  simp only [first, second]
  rw [u_point, normed_point m c t]
  canon_tiles x h
  · refine Eq.trans ?_ ((congrArg (REF _ _ _ _ _) (emb_at t y (x 0) 3 (x 1) h0 h1)).trans (ref_at _ _ _ _ _ _ (x 0) 3 (x 1))).symm
    pointwise [k0_pay3, k0_pay8]
    refine congrArg₂ (· * ·) rfl (congrArg₂ (· + ·) (Finset.sum_congr rfl fun q _ => ?_) (offset_blk m c t 3 (x 0)))
    refine (triangle (x 0) q _ _).trans ?_
    exact congrArg (fun z : EReal => (if q.val ≤ (x 0).val then z else 0) * _) (weight_blk m c t 3 (x 0) q)
  · refine Eq.trans ?_ ((congrArg (REF _ _ _ _ _) (emb_at t y (x 0) 2 (x 1) h0 h1)).trans (ref_at _ _ _ _ _ _ (x 0) 2 (x 1))).symm
    pointwise [k0_pay2, k0_pay8]
    refine congrArg₂ (· * ·) rfl (congrArg₂ (· + ·) (Finset.sum_congr rfl fun q _ => ?_) (offset_blk m c t 2 (x 0)))
    refine (triangle (x 0) q _ _).trans ?_
    exact congrArg (fun z : EReal => (if q.val ≤ (x 0).val then z else 0) * _) (weight_blk m c t 2 (x 0) q)
  · refine Eq.trans ?_ ((congrArg (REF _ _ _ _ _) (emb_at t y (x 0) 1 (x 1) h0 h1)).trans (ref_at _ _ _ _ _ _ (x 0) 1 (x 1))).symm
    pointwise [group1, k0_pay8]
    refine congrArg₂ (· * ·) rfl (congrArg₂ (· + ·) (Finset.sum_congr rfl fun q _ => ?_) (offset_blk m c t 1 (x 0)))
    refine (triangle (x 0) q _ _).trans ?_
    exact congrArg (fun z : EReal => (if q.val ≤ (x 0).val then z else 0) * _) (weight_blk m c t 1 (x 0) q)
  · refine Eq.trans ?_ ((congrArg (REF _ _ _ _ _) (emb_at t y (x 0) 0 (x 1) h0 (by rw [h1]; simp))).trans (ref_at _ _ _ _ _ _ (x 0) 0 (x 1))).symm
    pointwise [group0, k0_pay8]
    refine congrArg₂ (· * ·) rfl (congrArg₂ (· + ·) (Finset.sum_congr rfl fun q _ => ?_) (offset_blk m c t 0 (x 0)))
    refine (triangle (x 0) q _ _).trans ?_
    exact congrArg (fun z : EReal => (if q.val ≤ (x 0).val then z else 0) * _) (weight_blk m c t 0 (x 0) q)

/-- The kernel's result array is the reference's term of the arguments. -/
theorem final (c : Dev nD) : (dats m 0 c).arrAt 6 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t _ y => ?_
  blk_simp
  rw [after0_6]
  exact point m c t y

end Cert.SguIdeal.RefValue
-- ==== Proof.RopeValue.lean ====
/-
# The rotary tables: the kernel's two arrays are the reference's

Each grid point holds 512 positions. It multiplies each position by a row of frequencies, takes the cosine and the sine,
and keeps them in the first 16 of every 64 lanes, the sine negated in the first 8; the other lanes are ones and zeros.
The row of frequencies repeats the 8 frequencies, so every lane reads the reference's angle.
-/
module

public import proofs.«01_k».proof.Proof.Gen.RopeIdeal.Frame
public import proofs.«01_k».proof.Proof.Gen.RopeRefIdeal.Run
public import Idealize.ShloMosaic.Lib.Pointwise
public import Idealize.ShloMosaic.Lib.Pipeline.ValueKit

@[expose] public section

set_option maxRecDepth 16384

noncomputable section

namespace Cert.RopeRefIdeal.RefValue

open Cert.RopeRefIdeal Cert.RopeRefIdeal.Gen Idealize.ShloMosaic Idealize.ShloMosaic.TcCoe Idealize.SL.Sem

/-- The angles: each position times each frequency. -/
def ang (p : IVec S16384 32) (f : FVec Ideal S8 .f32) : FVec Ideal S16384x8 .f32 :=
  mulf (broadcastInDim S16384x8 ![0, 1] bcast_S16384x1_S16384x8_0_1 (broadcastInDim S16384x1 ![0] bcast_S16384_S16384x1_0 (sitofp .f32 p))) (broadcastInDim S16384x8 ![0, 1] bcast_S1x8_S16384x8_0_1 (broadcastInDim S1x8 ![1] bcast_S8_S1x8_1 f))

/-- The reference's cosines as a function of its arguments. -/
def COS (p : IVec S16384 32) (f : FVec Ideal S8 .f32) : FVec Ideal S16384x128 .f32 :=
  concatenate S16384x128 1 [⟨S16384x8, Host.cos (ang p f)⟩, ⟨S16384x8, Host.cos (ang p f)⟩, ⟨S16384x48, broadcastInDim S16384x48 ![] bcast_S_S16384x48 (constant S_ .f32 0x3F800000#32)⟩, ⟨S16384x8, Host.cos (ang p f)⟩, ⟨S16384x8, Host.cos (ang p f)⟩, ⟨S16384x48, broadcastInDim S16384x48 ![] bcast_S_S16384x48 (constant S_ .f32 0x3F800000#32)⟩] concatenates_S16384x8_S16384x8_S16384x48_S16384x8_S16384x8_S16384x48_S16384x128_d1

/-- The reference's sines as a function of its arguments. -/
def SIN (p : IVec S16384 32) (f : FVec Ideal S8 .f32) : FVec Ideal S16384x128 .f32 :=
  concatenate S16384x128 1 [⟨S16384x8, Host.negf (Host.sin (ang p f))⟩, ⟨S16384x8, Host.sin (ang p f)⟩, ⟨S16384x48, broadcastInDim S16384x48 ![] bcast_S_S16384x48 (constant S_ .f32 0x00000000#32)⟩, ⟨S16384x8, Host.negf (Host.sin (ang p f))⟩, ⟨S16384x8, Host.sin (ang p f)⟩, ⟨S16384x48, broadcastInDim S16384x48 ![] bcast_S_S16384x48 (constant S_ .f32 0x00000000#32)⟩] concatenates_S16384x8_S16384x8_S16384x48_S16384x8_S16384x8_S16384x48_S16384x128_d1

end Cert.RopeRefIdeal.RefValue

namespace Cert.RopeIdeal.RefValue

open Cert.RopeIdeal Cert.RopeIdeal.Gen Idealize.ShloMosaic Idealize.ShloMosaic.TcCoe Idealize.SL.Sem
open Cert.RopeRefIdeal.RefValue (COS SIN ang)

variable (m : (ℓ : Loc nD τ sig) → Buf (Elt Ideal) ℓ)

/-- The block that each window stages at a grid point. -/
theorem idx : ∀ t : Fin cfg0.N, win0_0.index t = ![t.val, 0] ∧ win0_1.index t = ![0, 0] ∧ win0_2.index t = ![t.val, 0]
    ∧ win0_3.index t = ![t.val, 0] :=
  (by decide +kernel : ∀ t : Fin grid0.N, _)

/-- The positions and the frequencies. -/
abbrev ap (c : Dev nD) : IVec S16384 32 := m ((c : Thread nD τ).loc main_arg0)
abbrev af (c : Dev nD) : FVec Ideal S8 .f32 := m ((c : Thread nD τ).loc main_arg1)

/-- The row of frequencies: the 8 frequencies in the first 16 of every 64 lanes, and zeros. -/
def frow (f : FVec Ideal S8 .f32) (l : Fin 128) : EReal :=
  if h : l.val < 8 then f (ix1 ⟨l.val, h⟩)
  else if h : l.val - 8 < 8 then f (ix1 ⟨l.val - 8, h⟩)
  else if h : l.val - 8 - 8 < 48 then 0
  else if h : l.val - 8 - 8 - 48 < 8 then f (ix1 ⟨l.val - 8 - 8 - 48, h⟩)
  else if h : l.val - 8 - 8 - 48 - 8 < 8 then f (ix1 ⟨l.val - 8 - 8 - 48 - 8, h⟩) else 0

/-- The positions as the region finds them: one column. -/
theorem column (c : Dev nD) : V m c main_v2 = fun j : S16384x1.Idx => m ((c : Thread nD τ).loc main_arg0) (ix1 (j 0)) := by
  entry_read
  funext j
  pointwise

set_option maxHeartbeats 1600000 in
/-- The row of frequencies as the region finds it, as the term of the host operations. -/
theorem freqsTerm (c : Dev nD) : V m c main_v3 = concatenate S1x128 1 [⟨S1x8, broadcastInDim S1x8 ![1] bcast_S8_S1x8_1 (af m c)⟩, ⟨S1x8, broadcastInDim S1x8 ![1] bcast_S8_S1x8_1 (af m c)⟩, ⟨S1x48, broadcastInDim S1x48 ![] bcast_S_S1x48 (constant (F := Ideal) S_ .f32 0x00000000#32)⟩, ⟨S1x8, broadcastInDim S1x8 ![1] bcast_S8_S1x8_1 (af m c)⟩, ⟨S1x8, broadcastInDim S1x8 ![1] bcast_S8_S1x8_1 (af m c)⟩, ⟨S1x48, broadcastInDim S1x48 ![] bcast_S_S1x48 (constant (F := Ideal) S_ .f32 0x00000000#32)⟩] concatenates_S1x8_S1x8_S1x48_S1x8_S1x8_S1x48_S1x128_d1 := by
  show StableHlo.after hostOps0 _ _ = _
  unfold hostOps0
  open StableHlo in after_results <;> rfl

/-- The frequencies as the region finds them: one row. -/
theorem freqs (c : Dev nD) : V m c main_v3 = fun j : S1x128.Idx => frow (af m c) (j 1) := by
  rw [freqsTerm]
  funext j
  pointwise [frow]

/-- The row of the arrays that a grid point's block holds at its row `r`. -/
def row (t : Fin cfg0.N) (r : Fin 512) : Fin 16384 :=
  ⟨t.val * 512 + r.val, by have := lt_of_lt_of_eq t.isLt N_0; omega⟩

/-- The angles of the point's rows, at every lane. -/
theorem angles (c : Dev nD) (t : Fin cfg0.N) (r : Fin 512) (l : Fin 128) :
    k0_pay2 (F := Ideal) (iblk m c 0 t) (iblk m c 1 t) (ix2 r l)
      = FloatOps.sitofp (F := Ideal) .f32 (ap m c (ix1 (row t r))) * frow (af m c) l := by
  pointwise [k0_pay2]
  blk_point [iblk, idx t, column m c, freqs m c, row]
  have e : ((win0_1.blk t).view.emb (ix2 0 l)) = ix2 0 l := by
    blk_ext
    · rw [(idx t).2.1]; simp
    · rw [(idx t).2.1]; simp
  rw [e]
  rfl

/-- The lane within its head. -/
theorem lane (r : Fin 512) (l : Fin 128) : k0_pay3 (ix2 r l) = BitVec.ofNat 32 (l.val % 64) := by
  pointwise [k0_pay3]
  revert l
  decide +kernel

/-- A lane's place compared with 8 and with 16. -/
theorem below8 : ∀ l : Fin 128, IntOp.cmpi CmpIPredicate.slt (BitVec.ofNat 32 (l.val % 64)) 8#32 = if l.val % 64 < 8 then 1#1 else 0#1 := by
  decide +kernel
theorem below16 : ∀ l : Fin 128, IntOp.cmpi CmpIPredicate.slt (BitVec.ofNat 32 (l.val % 64)) 16#32 = if l.val % 64 < 16 then 1#1 else 0#1 := by
  decide +kernel

/-- The array index of an index of a grid point's block of cosines. -/
theorem emb_cos (t : Fin cfg0.N) (y : S512x128.Idx) : ((cfg0.win 2).blk t).view.emb y = ix2 (row t (y 0)) (y 1) := by
  blk_ext
  · rw [(idx t).2.2.1]; simp [row]
  · rw [(idx t).2.2.1]; simp

/-- The array index of an index of a grid point's block of sines. -/
theorem emb_sin (t : Fin cfg0.N) (y : S512x128.Idx) : ((cfg0.win 3).blk t).view.emb y = ix2 (row t (y 0)) (y 1) := by
  blk_ext
  · rw [(idx t).2.2.2]; simp [row]
  · rw [(idx t).2.2.2]; simp

/-- The cosines at a row and a lane. -/
theorem cos_at (c : Dev nD) (t : Fin cfg0.N) (r : Fin 512) (l : Fin 128) :
    k0_pay5 (F := Ideal) (iblk m c 0 t) (iblk m c 1 t) (ix2 r l) = COS (ap m c) (af m c) (ix2 (row t r) l) := by
  have e : k0_pay5 (F := Ideal) (iblk m c 0 t) (iblk m c 1 t) (ix2 r l)
      = Scalar.select (IntOp.cmpi CmpIPredicate.slt (k0_pay3 (ix2 r l)) 16#32)
          (FloatOps.cos (F := Ideal) (φ := .f32) (k0_pay2 (F := Ideal) (iblk m c 0 t) (iblk m c 1 t) (ix2 r l))) (Ideal.ofBits .f32 0x3F800000#32) := rfl
  rw [e, lane, below16, angles]
  pointwise [COS, ang, frow]
  have hl := l.isLt
  by_cases h0 : l.val < 8
  · simp only [dif_pos h0]
    rw [if_pos (by omega)]; rfl
  by_cases h1 : l.val - 8 < 8
  · simp only [dif_neg h0, dif_pos h1]
    rw [if_pos (by omega)]; rfl
  by_cases h2 : l.val - 8 - 8 < 48
  · simp only [dif_neg h0, dif_neg h1, dif_pos h2]
    rw [if_neg (by omega)]; rfl
  by_cases h3 : l.val - 8 - 8 - 48 < 8
  · simp only [dif_neg h0, dif_neg h1, dif_neg h2, dif_pos h3]
    rw [if_pos (by omega)]; rfl
  by_cases h4 : l.val - 8 - 8 - 48 - 8 < 8
  · simp only [dif_neg h0, dif_neg h1, dif_neg h2, dif_neg h3, dif_pos h4]
    rw [if_pos (by omega)]; rfl
  simp only [dif_neg h0, dif_neg h1, dif_neg h2, dif_neg h3, dif_neg h4]
  rw [if_neg (by omega)]; rfl

/-- The sines at a row and a lane. -/
theorem sin_at (c : Dev nD) (t : Fin cfg0.N) (r : Fin 512) (l : Fin 128) :
    k0_pay1 (F := Ideal) k0_pay6 (k0_pay7 (iblk m c 0 t) (iblk m c 1 t)) (k0_pay8 (iblk m c 0 t) (iblk m c 1 t)) (ix2 r l) = SIN (ap m c) (af m c) (ix2 (row t r) l) := by
  have e : k0_pay1 (F := Ideal) k0_pay6 (k0_pay7 (iblk m c 0 t) (iblk m c 1 t)) (k0_pay8 (iblk m c 0 t) (iblk m c 1 t)) (ix2 r l)
      = Scalar.select (IntOp.cmpi CmpIPredicate.slt (k0_pay3 (ix2 r l)) 8#32)
          ((Ideal.ofBits .f32 0x00000000#32 : EReal) - FloatOps.sin (F := Ideal) (φ := .f32) (k0_pay2 (F := Ideal) (iblk m c 0 t) (iblk m c 1 t) (ix2 r l)))
          (Scalar.select (IntOp.cmpi CmpIPredicate.slt (k0_pay3 (ix2 r l)) 16#32)
            (FloatOps.sin (F := Ideal) (φ := .f32) (k0_pay2 (F := Ideal) (iblk m c 0 t) (iblk m c 1 t) (ix2 r l))) (Ideal.ofBits .f32 0x00000000#32)) := rfl
  rw [e, lane, below8, below16, angles]
  pointwise [SIN, ang, frow]
  have hl := l.isLt
  by_cases h0 : l.val < 8
  · simp only [dif_pos h0]
    rw [if_pos (by omega)]; exact (sub_eq_add_neg _ _).trans (zero_add _)
  by_cases h1 : l.val - 8 < 8
  · simp only [dif_neg h0, dif_pos h1]
    rw [if_neg (by omega), if_pos (by omega)]; rfl
  by_cases h2 : l.val - 8 - 8 < 48
  · simp only [dif_neg h0, dif_neg h1, dif_pos h2]
    rw [if_neg (by omega), if_neg (by omega)]; rfl
  by_cases h3 : l.val - 8 - 8 - 48 < 8
  · simp only [dif_neg h0, dif_neg h1, dif_neg h2, dif_pos h3]
    rw [if_pos (by omega)]; exact (sub_eq_add_neg _ _).trans (zero_add _)
  by_cases h4 : l.val - 8 - 8 - 48 - 8 < 8
  · simp only [dif_neg h0, dif_neg h1, dif_neg h2, dif_neg h3, dif_pos h4]
    rw [if_neg (by omega), if_pos (by omega)]; rfl
  simp only [dif_neg h0, dif_neg h1, dif_neg h2, dif_neg h3, dif_neg h4]
  rw [if_neg (by omega), if_neg (by omega)]; rfl

/-- The kernel's cosines are the reference's. -/
theorem finalCos (c : Dev nD) : (dats m 0 c).arrAt 2 (cfgs 0).N = COS (m ((c : Thread nD τ).loc main_arg0)) (m ((c : Thread nD τ).loc main_arg1)) := by
  refine (dats m 0 c).arrAt_eq_of_covers 2 _ (by decide +kernel) fun t _ y => ?_
  blk_simp
  rw [after0_2]
  frame_out
  have hy : y = ix2 (y 0) (y 1) := by funext a; match a with | 0 => rfl | 1 => rfl
  refine Eq.trans ?_ ((congrArg (COS _ _) (emb_cos t y)).trans (cos_at m c t (y 0) (y 1)).symm).symm
  exact congrArg _ hy

/-- The kernel's sines are the reference's. -/
theorem finalSin (c : Dev nD) : (dats m 0 c).arrAt 3 (cfgs 0).N = SIN (m ((c : Thread nD τ).loc main_arg0)) (m ((c : Thread nD τ).loc main_arg1)) := by
  refine (dats m 0 c).arrAt_eq_of_covers 3 _ (by decide +kernel) fun t _ y => ?_
  blk_simp
  rw [after0_3]
  frame_out
  have hy : y = ix2 (y 0) (y 1) := by funext a; match a with | 0 => rfl | 1 => rfl
  refine Eq.trans ?_ ((congrArg (SIN _ _) (emb_sin t y)).trans (sin_at m c t (y 0) (y 1)).symm).symm
  exact congrArg _ hy

end Cert.RopeIdeal.RefValue
-- ==== Proof.lean ====
/-
# The claims about the calls of the layer, put together

Each call has the runs of its program, of its idealized program and of its reference (every execution ends, no argument
array changes, every counter reads zero again), and the equality of the idealized results. The runs are read off the
generated modules; the equality of the results of each call is in that call's own module.
-/
module

public import proofs.«01_k».proof.Defs
public import Idealize.ShloMosaic.Lib.Claim
public import proofs.«01_k».proof.Proof.Gen.Swa.Frame
public import proofs.«01_k».proof.Proof.Gen.SwaIdeal.Frame
public import proofs.«01_k».proof.Proof.Gen.SwaRefIdeal.Run
public import proofs.«01_k».proof.Proof.SwaValue
public import proofs.«01_k».proof.Proof.SwaRefEq
public import proofs.«01_k».proof.Proof.Gen.Ffn.Frame
public import proofs.«01_k».proof.Proof.Gen.FfnIdeal.Frame
public import proofs.«01_k».proof.Proof.Gen.FfnRefIdeal.Run
public import proofs.«01_k».proof.Proof.FfnValue
public import proofs.«01_k».proof.Proof.Gen.FfnInner.Frame
public import proofs.«01_k».proof.Proof.Gen.FfnInnerIdeal.Frame
public import proofs.«01_k».proof.Proof.Gen.FfnInnerRefIdeal.Run
public import proofs.«01_k».proof.Proof.FfnInnerValue
public import proofs.«01_k».proof.Proof.Gen.Proj.Frame
public import proofs.«01_k».proof.Proof.Gen.ProjIdeal.Frame
public import proofs.«01_k».proof.Proof.Gen.ProjRefIdeal.Run
public import proofs.«01_k».proof.Proof.ProjValue
public import proofs.«01_k».proof.Proof.Gen.Merge.Frame
public import proofs.«01_k».proof.Proof.Gen.MergeIdeal.Frame
public import proofs.«01_k».proof.Proof.Gen.MergeRefIdeal.Run
public import proofs.«01_k».proof.Proof.MergeValue
public import proofs.«01_k».proof.Proof.Gen.Sgu.Frame
public import proofs.«01_k».proof.Proof.Gen.SguIdeal.Frame
public import proofs.«01_k».proof.Proof.Gen.SguRefIdeal.Run
public import proofs.«01_k».proof.Proof.SguValue
public import proofs.«01_k».proof.Proof.Gen.Rope.Frame
public import proofs.«01_k».proof.Proof.Gen.RopeIdeal.Frame
public import proofs.«01_k».proof.Proof.Gen.RopeRefIdeal.Run
public import proofs.«01_k».proof.Proof.RopeValue
public import proofs.«01_k».proof.Proof.Gen.Dn.Frame
public import proofs.«01_k».proof.Proof.Gen.DnIdeal.Frame

@[expose] public section

set_option maxRecDepth 16384

noncomputable section

namespace Cert.Proof

open Idealize.ShloMosaic Idealize.SL.Sem

/-- The banded attention: the idealized kernel names its mask, which reads as minus infinity. -/
theorem preservesSwa : Cert.preserves_Swa_SwaIdeal := IdealRules.named_const.statement _ _ _ _ _ rfl

/-- The banded attention: on finite inputs and tables laid out as the model lays them out, the idealized kernel and the
idealized reference end with the same array. -/
theorem algebraicSwa : Cert.algebraic_SwaIdeal_SwaRefIdeal_pre_finite_with_tables
    (hSwaIdeal := Cert.SwaIdeal.Gen.facts) (hSwaRefIdeal := Cert.SwaRefIdeal.Gen.facts)
    (hPre_finite_with_tables := Cert.Pre_finite_with_tables.Gen.facts) := by
  pair_intro
  · run_from Cert.SwaIdeal.Gen.run_main m g
  · refine (θ_run Cert.SwaRefIdeal.defs _ _).mono (fun r h c => ⟨(h c).1.trans ?_, (h c).2⟩) (Cert.SwaRefIdeal.Value.run m' g')
    refine (Cert.SwaRefIdeal.RefValue.res_eq m' c).trans ?_
    obtain ⟨h0, h1, h2, h3⟩ := hagree c
    rw [h0, h1, h2, h3]
    exact (Cert.SwaIdeal.RefValue.final m c (hpre c)).symm

/-- The gated feed-forward sub-layer with the closing norm: the idealized kernel and the idealized reference end with the same array. -/
theorem algebraicFfn : Cert.algebraic_FfnIdeal_FfnRefIdeal
    (hFfnIdeal := Cert.FfnIdeal.Gen.facts) (hFfnRefIdeal := Cert.FfnRefIdeal.Gen.facts) := by
  pair_intro
  · run_from Cert.FfnIdeal.Gen.run_main m g
  · run_from Cert.FfnRefIdeal.Value.run m' g'
    unfold Cert.FfnRefIdeal.Value.res_main_v32
    obtain ⟨h0, h1, h2, h3, h4⟩ := hagree c
    rw [h0, h1, h2, h3, h4]
    exact (Cert.FfnIdeal.RefValue.final m c).symm

/-- The gated feed-forward sub-layer without the closing norm: the idealized kernel and the idealized reference end with the same array. -/
theorem algebraicFfnInner : Cert.algebraic_FfnInnerIdeal_FfnInnerRefIdeal
    (hFfnInnerIdeal := Cert.FfnInnerIdeal.Gen.facts) (hFfnInnerRefIdeal := Cert.FfnInnerRefIdeal.Gen.facts) := by
  pair_intro
  · run_from Cert.FfnInnerIdeal.Gen.run_main m g
  · run_from Cert.FfnInnerRefIdeal.Value.run m' g'
    exact (Cert.FfnInnerIdeal.RefValue.final m c).symm

/-- The norm and the joint projection: the idealized kernel and the idealized reference end with the same array. -/
theorem algebraicProj : Cert.algebraic_ProjIdeal_ProjRefIdeal
    (hProjIdeal := Cert.ProjIdeal.Gen.facts) (hProjRefIdeal := Cert.ProjRefIdeal.Gen.facts) := by
  pair_intro
  · run_from Cert.ProjIdeal.Gen.run_main m g
  · run_from Cert.ProjRefIdeal.Value.run m' g'
    exact (Cert.ProjIdeal.RefValue.final m c).symm

/-- The gated merge of the three mixers: the idealized kernel and the idealized reference end with the same array. -/
theorem algebraicMerge : Cert.algebraic_MergeIdeal_MergeRefIdeal
    (hMergeIdeal := Cert.MergeIdeal.Gen.facts) (hMergeRefIdeal := Cert.MergeRefIdeal.Gen.facts) := by
  pair_intro
  · run_from Cert.MergeIdeal.Gen.run_main m g
  · run_from Cert.MergeRefIdeal.Value.run m' g'
    exact (Cert.MergeIdeal.RefValue.final m c).symm

/-- The spatial gating unit: the idealized kernel and the idealized reference end with the same array. -/
theorem algebraicSgu : Cert.algebraic_SguIdeal_SguRefIdeal
    (hSguIdeal := Cert.SguIdeal.Gen.facts) (hSguRefIdeal := Cert.SguRefIdeal.Gen.facts) := by
  pair_intro
  · run_from Cert.SguIdeal.Gen.run_main m g
  · run_from Cert.SguRefIdeal.Value.run m' g'
    unfold Cert.SguRefIdeal.Value.res_main_v61
    obtain ⟨h0, h1, h2, h3, h4⟩ := hagree c
    rw [h0, h1, h2, h3, h4]
    exact (Cert.SguIdeal.RefValue.final m c).symm

/-- The rotary tables: the idealized kernel and the idealized reference end with the same two arrays. -/
theorem algebraicRope : Cert.algebraic_RopeIdeal_RopeRefIdeal
    (hRopeIdeal := Cert.RopeIdeal.Gen.facts) (hRopeRefIdeal := Cert.RopeRefIdeal.Gen.facts) := by
  pair_intro
  · run_from Cert.RopeIdeal.Gen.run_main m g
  · refine (θ_run Cert.RopeRefIdeal.defs _ _).mono (fun r h c => ⟨(h c).1.trans ?_, (h c).2.1.trans ?_, (h c).2.2⟩) (Cert.RopeRefIdeal.Value.run m' g')
    · obtain ⟨h0, h1⟩ := hagree c
      rw [h0, h1]
      exact (Cert.RopeIdeal.RefValue.finalCos m c).symm
    · obtain ⟨h0, h1⟩ := hagree c
      rw [h0, h1]
      exact (Cert.RopeIdeal.RefValue.finalSin m c).symm

/-- The gated DeltaNet: the idealized kernel names its mask, which reads as minus infinity. -/
theorem preservesDn : Cert.preserves_Dn_DnIdeal := IdealRules.named_const.statement _ _ _ _ _ rfl

/-- All the claims. -/
theorem claim : Cert.Claim :=
  ⟨Cert.Swa.Gen.facts,
   Cert.SwaIdeal.Gen.facts,
   Cert.SwaRefIdeal.Gen.facts,
   Cert.Ffn.Gen.facts,
   Cert.FfnIdeal.Gen.facts,
   Cert.FfnRefIdeal.Gen.facts,
   Cert.FfnInner.Gen.facts,
   Cert.FfnInnerIdeal.Gen.facts,
   Cert.FfnInnerRefIdeal.Gen.facts,
   Cert.Proj.Gen.facts,
   Cert.ProjIdeal.Gen.facts,
   Cert.ProjRefIdeal.Gen.facts,
   Cert.Merge.Gen.facts,
   Cert.MergeIdeal.Gen.facts,
   Cert.MergeRefIdeal.Gen.facts,
   Cert.Sgu.Gen.facts,
   Cert.SguIdeal.Gen.facts,
   Cert.SguRefIdeal.Gen.facts,
   Cert.Rope.Gen.facts,
   Cert.RopeIdeal.Gen.facts,
   Cert.RopeRefIdeal.Gen.facts,
   Cert.Dn.Gen.facts,
   Cert.DnIdeal.Gen.facts,
   Cert.Pre_finite_with_tables.Gen.facts,
   fun m ρ _ => Cert.Swa.Gen.frame m ρ,
   fun m ρ _ => Cert.SwaIdeal.Gen.frame m ρ,
   fun m ρ _ => Cert.SwaIdeal.Gen.frame m ρ,
   fun m ρ _ => (θ_run Cert.SwaRefIdeal.defs _ _).mono (fun r h => ⟨fun c => (h c).2, sem_eq_zero_of_no_sems (by decide) r.2⟩)
     (Cert.SwaRefIdeal.Value.run m ρ),
   fun m ρ _ => (θ_run Cert.SwaRefIdeal.defs _ _).mono (fun r h => ⟨fun c => (h c).2, sem_eq_zero_of_no_sems (by decide) r.2⟩)
     (Cert.SwaRefIdeal.Value.run m ρ),
   fun m ρ _ => Cert.Ffn.Gen.frame m ρ,
   fun m ρ _ => Cert.FfnIdeal.Gen.frame m ρ,
   fun m ρ _ => (θ_run Cert.FfnRefIdeal.defs _ _).mono (fun r h => ⟨fun c => (h c).2, sem_eq_zero_of_no_sems (by decide) r.2⟩)
     (Cert.FfnRefIdeal.Value.run m ρ),
   fun m ρ _ => Cert.FfnInner.Gen.frame m ρ,
   fun m ρ _ => Cert.FfnInnerIdeal.Gen.frame m ρ,
   fun m ρ _ => (θ_run Cert.FfnInnerRefIdeal.defs _ _).mono (fun r h => ⟨fun c => (h c).2, sem_eq_zero_of_no_sems (by decide) r.2⟩)
     (Cert.FfnInnerRefIdeal.Value.run m ρ),
   fun m ρ _ => Cert.Proj.Gen.frame m ρ,
   fun m ρ _ => Cert.ProjIdeal.Gen.frame m ρ,
   fun m ρ _ => (θ_run Cert.ProjRefIdeal.defs _ _).mono (fun r h => ⟨fun c => (h c).2, sem_eq_zero_of_no_sems (by decide) r.2⟩)
     (Cert.ProjRefIdeal.Value.run m ρ),
   fun m ρ _ => Cert.Merge.Gen.frame m ρ,
   fun m ρ _ => Cert.MergeIdeal.Gen.frame m ρ,
   fun m ρ _ => (θ_run Cert.MergeRefIdeal.defs _ _).mono (fun r h => ⟨fun c => (h c).2, sem_eq_zero_of_no_sems (by decide) r.2⟩)
     (Cert.MergeRefIdeal.Value.run m ρ),
   fun m ρ _ => Cert.Sgu.Gen.frame m ρ,
   fun m ρ _ => Cert.SguIdeal.Gen.frame m ρ,
   fun m ρ _ => (θ_run Cert.SguRefIdeal.defs _ _).mono (fun r h => ⟨fun c => (h c).2, sem_eq_zero_of_no_sems (by decide) r.2⟩)
     (Cert.SguRefIdeal.Value.run m ρ),
   fun m ρ _ => Cert.Rope.Gen.frame m ρ,
   fun m ρ _ => Cert.RopeIdeal.Gen.frame m ρ,
   fun m ρ _ => (θ_run Cert.RopeRefIdeal.defs _ _).mono (fun r h => ⟨fun c => (h c).2.2, sem_eq_zero_of_no_sems (by decide) r.2⟩)
     (Cert.RopeRefIdeal.Value.run m ρ),
   fun m ρ _ => Cert.Dn.Gen.frame m ρ,
   fun m ρ _ => Cert.DnIdeal.Gen.frame m ρ,
   preservesSwa,
   algebraicSwa,
   trivial,
   algebraicFfn,
   trivial,
   algebraicFfnInner,
   trivial,
   algebraicProj,
   trivial,
   algebraicMerge,
   trivial,
   algebraicSgu,
   trivial,
   algebraicRope,
   preservesDn⟩

end Cert.Proof

end
